-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masked_input_finite [hPre_masked_input_finite : Cert.Pre_masked_input_finite.Facts] (m : (ℓ : Loc Cert.KernelIdeal.nD Cert.KernelIdeal.τ Cert.KernelIdeal.sig) → Buf (Elt Ideal) ℓ) : Prop :=
  ∀ c : Dev Cert.KernelIdeal.nD,
    (Cert.Pre_masked_input_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masked_input_finite [hPre_masked_input_finite : Cert.Pre_masked_input_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masked_input_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_masked_input_finite [hKernelIdeal : Cert.KernelIdeal.Facts] [hPre_masked_input_finite : Cert.Pre_masked_input_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masked_input_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_masked_input_finite [hReferenceIdeal : Cert.ReferenceIdeal.Facts] [hPre_masked_input_finite : Cert.Pre_masked_input_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masked_input_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_masked_input_finite [hKernelIdeal : Cert.KernelIdeal.Facts] [hReferenceIdeal : Cert.ReferenceIdeal.Facts] [hPre_masked_input_finite : Cert.Pre_masked_input_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masked_input_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_masked_input_finite : Cert.Pre_masked_input_finite.Facts),
    quiescent_Kernel (hKernel := hKernel)
    ∧ quiescent_KernelIdeal (hKernelIdeal := hKernelIdeal)
    ∧ quiescent_KernelIdeal_pre_masked_input_finite (hKernelIdeal := hKernelIdeal) (hPre_masked_input_finite := hPre_masked_input_finite)
    ∧ quiescent_ReferenceIdeal (hReferenceIdeal := hReferenceIdeal)
    ∧ quiescent_ReferenceIdeal_pre_masked_input_finite (hReferenceIdeal := hReferenceIdeal) (hPre_masked_input_finite := hPre_masked_input_finite)
    ∧ preserves_Kernel_KernelIdeal
    ∧ algebraic_KernelIdeal_ReferenceIdeal_pre_masked_input_finite (hKernelIdeal := hKernelIdeal) (hReferenceIdeal := hReferenceIdeal) (hPre_masked_input_finite := hPre_masked_input_finite)
-- ==== Pre_masked_input_finite.lean ====
abbrev S1x384x384x384 : Shape := ⟨4, ![1, 384, 384, 384]⟩
abbrev S1x1x384x384 : Shape := ⟨4, ![1, 1, 384, 384]⟩
abbrev S_ : Shape := ⟨0, ![]⟩

class Facts : Prop where
  bcast_S1x1x384x384_S1x384x384x384_0_1_2_3 : S1x1x384x384.BroadcastsInDim S1x384x384x384 (![0, 1, 2, 3] : Fin 4 → Fin S1x384x384x384.rank)
  bcast_S_S1x384x384x384 : S_.BroadcastsInDim S1x384x384x384 (![] : Fin 0 → Fin S1x384x384x384.rank)

variable [Facts]

def fn {F : FTy → Type} [FloatOps F] (main_arg0 : FVec F S1x384x384x384 .f32) (main_arg1 : FVec F S1x384x384x384 .f32) (main_arg2 : FVec F S1x1x384x384 .f32) (main_arg3 : FVec F S1x1x384x384 .f32) : IVec S1x384x384x384 1 :=
  let main_v0 : FVec F S1x384x384x384 .f32 := broadcastInDim S1x384x384x384 ![0, 1, 2, 3] bcast_S1x1x384x384_S1x384x384x384_0_1_2_3 main_arg2
  let main_v1 : FVec F S1x384x384x384 .f32 := mulf main_arg0 main_v0
  let main_v2 : FVec F S1x384x384x384 .f32 := Host.absf main_v1
  let main_cst : FVec F S_ .f32 := constant S_ .f32 0x7F800000#32
  let main_v3 : FVec F S1x384x384x384 .f32 := broadcastInDim S1x384x384x384 ![] bcast_S_S1x384x384x384 main_cst
  let main_v4 : IVec S1x384x384x384 1 := cmpf .olt main_v2 main_v3
  main_v4
-- ==== Kernel.lean ====
abbrev S1x384x384x384 : Shape := ⟨4, ![1, 384, 384, 384]⟩
abbrev S1x1x384x384 : Shape := ⟨4, ![1, 1, 384, 384]⟩
abbrev S384x16x9216 : Shape := ⟨3, ![384, 16, 9216]⟩
abbrev S16x9216 : Shape := ⟨2, ![16, 9216]⟩
abbrev S384x1x1 : Shape := ⟨3, ![384, 1, 1]⟩
abbrev S1x16x9216 : Shape := ⟨3, ![1, 16, 9216]⟩
abbrev S1x1x1 : Shape := ⟨3, ![1, 1, 1]⟩
abbrev S1 : Shape := ⟨1, ![1]⟩
abbrev S1x1 : Shape := ⟨2, ![1, 1]⟩
abbrev S384x16x16 : Shape := ⟨3, ![384, 16, 16]⟩
abbrev S1x16x16 : Shape := ⟨3, ![1, 16, 16]⟩
abbrev S16x16 : Shape := ⟨2, ![16, 16]⟩
abbrev S1x9216 : Shape := ⟨2, ![1, 9216]⟩
abbrev S384x256 : Shape := ⟨2, ![384, 256]⟩
abbrev S384x1152x128 : Shape := ⟨3, ![384, 1152, 128]⟩
abbrev S1152x128 : Shape := ⟨2, ![1152, 128]⟩
abbrev S1x1152x128 : Shape := ⟨3, ![1, 1152, 128]⟩
abbrev S512x1 : Shape := ⟨2, ![512, 1]⟩
abbrev S384 : Shape := ⟨1, ![384]⟩
abbrev S384x1 : Shape := ⟨2, ![384, 1]⟩
abbrev S384x255 : Shape := ⟨2, ![384, 255]⟩
abbrev S384x2 : Shape := ⟨2, ![384, 2]⟩
abbrev S384x254 : Shape := ⟨2, ![384, 254]⟩
abbrev S384x4 : Shape := ⟨2, ![384, 4]⟩
abbrev S384x252 : Shape := ⟨2, ![384, 252]⟩
abbrev S384x8 : Shape := ⟨2, ![384, 8]⟩
abbrev S384x248 : Shape := ⟨2, ![384, 248]⟩
abbrev S384x16 : Shape := ⟨2, ![384, 16]⟩
abbrev S384x240 : Shape := ⟨2, ![384, 240]⟩
abbrev S384x32 : Shape := ⟨2, ![384, 32]⟩
abbrev S384x224 : Shape := ⟨2, ![384, 224]⟩
abbrev S384x64 : Shape := ⟨2, ![384, 64]⟩
abbrev S384x192 : Shape := ⟨2, ![384, 192]⟩
abbrev S384x128 : Shape := ⟨2, ![384, 128]⟩
abbrev S1x256 : Shape := ⟨2, ![1, 256]⟩
abbrev S1x255 : Shape := ⟨2, ![1, 255]⟩
abbrev S1x512 : Shape := ⟨2, ![1, 512]⟩
abbrev S512x256 : Shape := ⟨2, ![512, 256]⟩
abbrev S512 : Shape := ⟨1, ![512]⟩
abbrev S512x512 : Shape := ⟨2, ![512, 512]⟩
abbrev S384x256x1 : Shape := ⟨3, ![384, 256, 1]⟩
abbrev S1x256x1 : Shape := ⟨3, ![1, 256, 1]⟩
abbrev S256x1 : Shape := ⟨2, ![256, 1]⟩
abbrev S1152 : Shape := ⟨1, ![1152]⟩
abbrev S1152x1 : Shape := ⟨2, ![1152, 1]⟩
abbrev S1x1152x1 : Shape := ⟨3, ![1, 1152, 1]⟩
abbrev S256x1152 : Shape := ⟨2, ![256, 1152]⟩
abbrev S256x128 : Shape := ⟨2, ![256, 128]⟩
abbrev S256 : Shape := ⟨1, ![256]⟩
abbrev S255x1 : Shape := ⟨2, ![255, 1]⟩
abbrev S_ : Shape := ⟨0, ![]⟩

abbrev nBuf : Space → Nat
  | .hbm => 22
  | .vmem => 33
  | .smem => 0
  | _ => 0

abbrev bufTy : (tb : Table) → Fin (tcTables nBuf tb) → BufTy
  | .hbm, ⟨0, _⟩ => ⟨S1x384x384x384, .f32⟩
  | .hbm, ⟨1, _⟩ => ⟨S1x384x384x384, .f32⟩
  | .hbm, ⟨2, _⟩ => ⟨S1x1x384x384, .f32⟩
  | .hbm, ⟨3, _⟩ => ⟨S1x1x384x384, .f32⟩
  | .hbm, ⟨4, _⟩ => ⟨S384x16x9216, .f32⟩
  | .hbm, ⟨5, _⟩ => ⟨S16x9216, .f32⟩
  | .hbm, ⟨6, _⟩ => ⟨S384x1x1, .f32⟩
  | .hbm, ⟨7, _⟩ => ⟨S384x1x1, .f32⟩
  | .hbm, ⟨8, _⟩ => ⟨S384x16x16, .f32⟩
  | .hbm, ⟨9, _⟩ => ⟨S384x256, .f32⟩
  | .hbm, ⟨10, _⟩ => ⟨S384x1152x128, .f32⟩
  | .hbm, ⟨11, _⟩ => ⟨S1152x128, .f32⟩
  | .hbm, ⟨12, _⟩ => ⟨S1x1x1, .f32⟩
  | .hbm, ⟨13, _⟩ => ⟨S1x1x1, .f32⟩
  | .hbm, ⟨14, _⟩ => ⟨S384x256, .f32⟩
  | .hbm, ⟨15, _⟩ => ⟨S512x1, .f32⟩
  | .hbm, ⟨16, _⟩ => ⟨S384x256x1, .f32⟩
  | .hbm, ⟨17, _⟩ => ⟨S384x1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x16x9216, .f32⟩
  | .local _ .vmem, ⟨1, _⟩ => ⟨S1x16x9216, .f32⟩
  | .local _ .vmem, ⟨2, _⟩ => ⟨S16x9216, .f32⟩
  | .local _ .vmem, ⟨3, _⟩ => ⟨S1x1x1, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x16x9216, .f32⟩
  | .local _ .vmem, ⟨8, _⟩ => ⟨S1x16x9216, .f32⟩
  | .local _ .vmem, ⟨9, _⟩ => ⟨S16x9216, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x16x16, .f32⟩
  | .local _ .vmem, ⟨15, _⟩ => ⟨S1x16x16, .f32⟩
  | .local _ .vmem, ⟨16, _⟩ => ⟨S1x1152x128, .f32⟩
  | .local _ .vmem, ⟨17, _⟩ => ⟨S1152x128, .f32⟩
  | .local _ .vmem, ⟨18, _⟩ => ⟨S1x1x1, .f32⟩
  | .local _ .vmem, ⟨19, _⟩ => ⟨S1x1x1, .f32⟩
  | .local _ .vmem, ⟨20, _⟩ => ⟨S384x256, .f32⟩
  | .local _ .vmem, ⟨21, _⟩ => ⟨S1x1x1, .f32⟩
  | .local _ .vmem, ⟨22, _⟩ => ⟨S1x1x1, .f32⟩
  | .local _ .vmem, ⟨23, _⟩ => ⟨S384x256, .f32⟩
  | .local _ .vmem, ⟨24, _⟩ => ⟨S512x1, .f32⟩
  | .local _ .vmem, ⟨25, _⟩ => ⟨S1x1152x128, .f32⟩
  | .local _ .vmem, ⟨26, _⟩ => ⟨S1x1152x128, .f32⟩
  | .local _ .vmem, ⟨27, _⟩ => ⟨S1152x128, .f32⟩
  | .local _ .vmem, ⟨28, _⟩ => ⟨S1x256x1, .f32⟩
  | .local _ .vmem, ⟨29, _⟩ => ⟨S1x256x1, .f32⟩
  | .local _ .vmem, ⟨30, _⟩ => ⟨S512x1, .f32⟩
  | .local _ .vmem, ⟨31, _⟩ => ⟨S1x1x1, .f32⟩
  | .local _ .vmem, ⟨32, _⟩ => ⟨S1x1x1, .f32⟩
  | _, _ => ⟨S1x384x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc3_sem0_0 : DmaSem sig := 20
abbrev cc3_sem1_0 : DmaSem sig := 21
abbrev cc3_sem2_0 : DmaSem sig := 22
abbrev cc3_sem3_0 : DmaSem sig := 23
abbrev cc3_sem4_0 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem4_1 : DmaSem sig := 32

abbrev nD : Nat := 1
abbrev τ : Topo := Topo.v7x

variable {F : FTy → Type} [FloatOps F]

abbrev grid0 : Pipeline.Grid := ⟨1, ![384], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![384], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x9216 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x9216 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 1 → Memref sig .tc .vmem S1x1152x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1152x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := .none

abbrev stage3_0 : Fin 1 → Memref sig .tc .vmem S384x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S384x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S512x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev grid4 : Pipeline.Grid := ⟨1, ![384], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1152x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1152x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x256x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S512x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1x1x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]
-- ==== ReferenceIdeal.lean ====
abbrev S1x384x384x384 : Shape := ⟨4, ![1, 384, 384, 384]⟩
abbrev S1x1x384x384 : Shape := ⟨4, ![1, 1, 384, 384]⟩
abbrev S384x147456 : Shape := ⟨2, ![384, 147456]⟩
abbrev S_ : Shape := ⟨0, ![]⟩
abbrev S384 : Shape := ⟨1, ![384]⟩
abbrev S384x1 : Shape := ⟨2, ![384, 1]⟩
abbrev S56623104 : Shape := ⟨1, ![56623104]⟩
abbrev S98304 : Shape := ⟨1, ![98304]⟩
abbrev S56623104x1 : Shape := ⟨2, ![56623104, 1]⟩
abbrev S384x256 : Shape := ⟨2, ![384, 256]⟩
abbrev S147456 : Shape := ⟨1, ![147456]⟩
abbrev S1x147456 : Shape := ⟨2, ![1, 147456]⟩
abbrev S384x255 : Shape := ⟨2, ![384, 255]⟩
abbrev S384x1x256 : Shape := ⟨3, ![384, 1, 256]⟩
abbrev S1x147456x1 : Shape := ⟨3, ![1, 147456, 1]⟩
abbrev S384x147456x256 : Shape := ⟨3, ![384, 147456, 256]⟩
abbrev S1 : Shape := ⟨1, ![1]⟩

abbrev nBuf : Space → Nat
  | .hbm => 174
  | .vmem => 0
  | .smem => 0
  | _ => 0

abbrev hbmTy0_0 (i : Nat) : BufTy := match i % 128 with
  | 0 => ⟨S1x384x384x384, .f32⟩
  | 1 => ⟨S1x384x384x384, .f32⟩
  | 2 => ⟨S1x1x384x384, .f32⟩
  | 3 => ⟨S1x1x384x384, .f32⟩
  | 4 => ⟨S1x384x384x384, .f32⟩
  | 5 => ⟨S1x384x384x384, .f32⟩
  | 6 => ⟨S384x147456, .f32⟩
  | 7 => ⟨S_, .f32⟩
  | 8 => ⟨S384, .f32⟩
  | 9 => ⟨S384x1, .f32⟩
  | 10 => ⟨S_, .f32⟩
  | 11 => ⟨S384, .f32⟩
  | 12 => ⟨S384x1, .f32⟩
  | 13 => ⟨S384x1, .f32⟩
  | 14 => ⟨S_, .f32⟩
  | 15 => ⟨S384x1, .f32⟩
  | 16 => ⟨S384x1, .f32⟩
  | 17 => ⟨S384x147456, .f32⟩
  | 18 => ⟨S384x147456, .f32⟩
  | 19 => ⟨S_, .f32⟩
  | 20 => ⟨S384x1, .f32⟩
  | 21 => ⟨S384x1, .f32⟩
  | 22 => ⟨S384x147456, .f32⟩
  | 23 => ⟨S384x147456, .f32⟩
  | 24 => ⟨S384x147456, .f32⟩
  | 25 => ⟨S384x147456, .i32⟩
  | 26 => ⟨S_, .i32⟩
  | 27 => ⟨S_, .i32⟩
  | 28 => ⟨S_, .i32⟩
  | 29 => ⟨S384x147456, .i32⟩
  | 30 => ⟨S384x147456, .i32⟩
  | 31 => ⟨S_, .i32⟩
  | 32 => ⟨S384x147456, .i32⟩
  | 33 => ⟨S384x147456, .i32⟩
  | 34 => ⟨S384, .i32⟩
  | 35 => ⟨S384x1, .i32⟩
  | 36 => ⟨S_, .i32⟩
  | 37 => ⟨S384x1, .i32⟩
  | 38 => ⟨S384x1, .i32⟩
  | 39 => ⟨S384x147456, .i32⟩
  | 40 => ⟨S384x147456, .i32⟩
  | 41 => ⟨S56623104, .i32⟩
  | 42 => ⟨S_, .i32⟩
  | 43 => ⟨S98304, .i32⟩
  | 44 => ⟨S_, .i32⟩
  | 45 => ⟨S_, .i32⟩
  | 46 => ⟨S56623104, .i32⟩
  | 47 => ⟨S56623104, .i32⟩
  | 48 => ⟨S_, .i32⟩
  | 49 => ⟨S56623104, .i32⟩
  | 50 => ⟨S56623104, .i1⟩
  | 51 => ⟨S_, .i32⟩
  | 52 => ⟨S56623104, .i32⟩
  | 53 => ⟨S56623104, .i32⟩
  | 54 => ⟨S56623104, .i32⟩
  | 55 => ⟨S56623104x1, .i32⟩
  | 56 => ⟨S_, .i32⟩
  | 57 => ⟨S56623104, .i32⟩
  | 58 => ⟨S98304, .i32⟩
  | 59 => ⟨S384x256, .i32⟩
  | 60 => ⟨S384x256, .f32⟩
  | 61 => ⟨S1x384x384x384, .f32⟩
  | 62 => ⟨S1x384x384x384, .f32⟩
  | 63 => ⟨S384x147456, .f32⟩
  | 64 => ⟨S_, .f32⟩
  | 65 => ⟨S384, .f32⟩
  | 66 => ⟨S384x1, .f32⟩
  | 67 => ⟨S_, .f32⟩
  | 68 => ⟨S384, .f32⟩
  | 69 => ⟨S384x1, .f32⟩
  | 70 => ⟨S384x1, .f32⟩
  | 71 => ⟨S_, .f32⟩
  | 72 => ⟨S384x1, .f32⟩
  | 73 => ⟨S384x1, .f32⟩
  | 74 => ⟨S147456, .f32⟩
  | 75 => ⟨S_, .f32⟩
  | 76 => ⟨S147456, .f32⟩
  | 77 => ⟨S147456, .f32⟩
  | 78 => ⟨S1x147456, .f32⟩
  | 79 => ⟨S_, .f32⟩
  | 80 => ⟨S384x256, .f32⟩
  | 81 => ⟨S384x256, .f32⟩
  | 82 => ⟨S_, .f32⟩
  | 83 => ⟨S384, .f32⟩
  | 84 => ⟨S384x1, .f32⟩
  | 85 => ⟨S384x256, .f32⟩
  | 86 => ⟨S384x256, .f32⟩
  | 87 => ⟨S_, .f32⟩
  | 88 => ⟨S_, .f32⟩
  | 89 => ⟨S384x256, .f32⟩
  | 90 => ⟨S_, .f32⟩
  | 91 => ⟨S384x1, .f32⟩
  | 92 => ⟨S384x255, .f32⟩
  | 93 => ⟨S384x256, .f32⟩
  | 94 => ⟨S384x1x256, .f32⟩
  | 95 => ⟨S147456, .f32⟩
  | 96 => ⟨S1x147456x1, .f32⟩
  | 97 => ⟨S384x147456x256, .f32⟩
  | 98 => ⟨S384x147456x256, .f32⟩
  | 99 => ⟨S384x147456x256, .i1⟩
  | 100 => ⟨S384x147456x256, .i32⟩
  | 101 => ⟨S_, .i32⟩
  | 102 => ⟨S384x147456, .i32⟩
  | 103 => ⟨S384x147456, .f32⟩
  | 104 => ⟨S98304, .f32⟩
  | 105 => ⟨S56623104, .i32⟩
  | 106 => ⟨S_, .i32⟩
  | 107 => ⟨S56623104, .i32⟩
  | 108 => ⟨S56623104, .i1⟩
  | 109 => ⟨S_, .i32⟩
  | 110 => ⟨S56623104, .i32⟩
  | 111 => ⟨S56623104, .i32⟩
  | 112 => ⟨S56623104, .i32⟩
  | 113 => ⟨S56623104x1, .i32⟩
  | 114 => ⟨S56623104, .f32⟩
  | 115 => ⟨S384x147456, .f32⟩
  | 116 => ⟨S384x147456, .f32⟩
  | 117 => ⟨S384x147456, .f32⟩
  | 118 => ⟨S98304, .f32⟩
  | 119 => ⟨S56623104, .i32⟩
  | 120 => ⟨S_, .i32⟩
  | 121 => ⟨S56623104, .i32⟩
  | 122 => ⟨S56623104, .i1⟩
  | 123 => ⟨S_, .i32⟩
  | 124 => ⟨S56623104, .i32⟩
  | 125 => ⟨S56623104, .i32⟩
  | 126 => ⟨S56623104, .i32⟩
  | 127 => ⟨S56623104x1, .i32⟩
  | _ => ⟨S1x384x384x384, .f32⟩

abbrev hbmTy0_1 (i : Nat) : BufTy := match i % 128 with
  | 0 => ⟨S56623104, .f32⟩
  | 1 => ⟨S384x147456, .f32⟩
  | 2 => ⟨S_, .f32⟩
  | 3 => ⟨S384x147456, .f32⟩
  | 4 => ⟨S384x147456, .f32⟩
  | 5 => ⟨S384x147456, .f32⟩
  | 6 => ⟨S_, .f32⟩
  | 7 => ⟨S_, .f32⟩
  | 8 => ⟨S_, .f32⟩
  | 9 => ⟨S384x147456, .f32⟩
  | 10 => ⟨S384x147456, .f32⟩
  | 11 => ⟨S_, .f32⟩
  | 12 => ⟨S384x147456, .f32⟩
  | 13 => ⟨S384x147456, .f32⟩
  | 14 => ⟨S384x147456, .f32⟩
  | 15 => ⟨S384x147456, .f32⟩
  | 16 => ⟨S384x147456, .f32⟩
  | 17 => ⟨S384x147456, .f32⟩
  | 18 => ⟨S384x147456, .f32⟩
  | 19 => ⟨S384, .f32⟩
  | 20 => ⟨S_, .i32⟩
  | 21 => ⟨S1, .i32⟩
  | 22 => ⟨S384x147456, .f32⟩
  | 23 => ⟨S56623104, .f32⟩
  | 24 => ⟨S56623104, .i32⟩
  | 25 => ⟨S_, .i32⟩
  | 26 => ⟨S56623104, .i32⟩
  | 27 => ⟨S56623104, .i1⟩
  | 28 => ⟨S_, .i32⟩
  | 29 => ⟨S56623104, .i32⟩
  | 30 => ⟨S56623104, .i32⟩
  | 31 => ⟨S56623104, .i32⟩
  | 32 => ⟨S56623104x1, .i32⟩
  | 33 => ⟨S56623104, .f32⟩
  | 34 => ⟨S384x147456, .f32⟩
  | 35 => ⟨S1x384x384x384, .f32⟩
  | 36 => ⟨S1x384x384x384, .f32⟩
  | 37 => ⟨S384x147456, .f32⟩
  | 38 => ⟨S384x147456, .f32⟩
  | 39 => ⟨S384x147456, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | _ => ⟨S1x384x384x384, .f32⟩

abbrev hbmTy (i : Nat) : BufTy := match i / 128 with
  | 0 => hbmTy0_0 i
  | 1 => hbmTy0_1 i
  | _ => ⟨S1x384x384x384, .f32⟩

abbrev bufTy : (tb : Table) → Fin (tcTables nBuf tb) → BufTy
  | .hbm, ⟨i, _⟩ => hbmTy i
  | _, _ => ⟨S1x384x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_c_6 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call2_call0_cst : Ref sig .tc := ⟨.hbm, 87, rfl⟩
abbrev main_call2_call0_v0 : Ref sig .tc := ⟨.hbm, 88, rfl⟩
abbrev main_v58 : Ref sig .tc := ⟨.hbm, 89, rfl⟩
abbrev main_cst_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_17 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_c_19 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_20 : Ref sig .tc := ⟨.hbm, 120, rfl⟩
abbrev main_v85 : Ref sig .tc := ⟨.hbm, 121, rfl⟩
abbrev main_v86 : Ref sig .tc := ⟨.hbm, 122, rfl⟩
abbrev main_c_21 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_22 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_23 : Ref sig .tc := ⟨.hbm, 134, rfl⟩
abbrev main_cst_24 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_25 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_c_26 : Ref sig .tc := ⟨.hbm, 153, rfl⟩
abbrev main_v107 : Ref sig .tc := ⟨.hbm, 154, rfl⟩
abbrev main_v108 : Ref sig .tc := ⟨.hbm, 155, rfl⟩
abbrev main_c_27 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_28 : Ref sig .tc := ⟨.hbm, 168, rfl⟩
abbrev main_v120 : Ref sig .tc := ⟨.hbm, 169, rfl⟩
abbrev main_cst_29 : Ref sig .tc := ⟨.hbm, 170, rfl⟩
abbrev main_v121 : Ref sig .tc := ⟨.hbm, 171, rfl⟩
abbrev main_cst_30 : Ref sig .tc := ⟨.hbm, 172, rfl⟩
abbrev main_v122 : Ref sig .tc := ⟨.hbm, 173, rfl⟩

abbrev nD : Nat := 1
abbrev τ : Topo := Topo.v7x

variable {F : FTy → Type} [FloatOps F]
-- ==== Proof.KernelRun.lean ====
/-
  The kernel's run, with its result: every weakly fair execution ends with the result array at what the last boundary's
  contents `W9` hold, and the arguments as launched.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- From any memory with zero counters every run ends, nothing faulting, with every unscoped buffer of the TensorCore at
    the last boundary's contents. -/
theorem run_contents : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- The run, with the result array and the arguments named. -/
theorem run_result : θ_run defs (onTc (τ := τ) (main (F := F))) ⟨m, fun _ => 0, ρ⟩ (fun r => ∀ c : Dev nD,
      r.2.mem ((c.tc : Thread nD τ).loc main_v12) = W9 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
      ⟨h c _ (mem_uc main_v12 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩) (run_contents m ρ)

end Cert.KernelIdeal.Gen

end
-- ==== Proof.Blocks.lean ====
/-
  The blocks of one channel, and the value of the histogram body as one function of a block's digits.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- Channel `c`'s 16×9216 block. -/
def blkA (X : FVec Ideal S384x16x9216 .f32) (c : Fin 384) : FVec Ideal S1x16x9216 .f32 := fun y => X (ix3 c (y 1) (y 2))

/-- A 1×1×1 array has one index. -/
theorem one3 (y : S1x1x1.Idx) : y = ix3 0 0 0 := by
  rw [eq_ix3 y]
  congr 1 <;> exact Subsingleton.elim _ _

/-- Channel `c`'s one value of an array of one value per channel. -/
def blkOne (X : FVec Ideal S384x1x1 .f32) (c : Fin 384) : FVec Ideal S1x1x1 .f32 := fun _ => X (ix3 c 0 0)

/-- Channel `c`'s 1152×128 block. -/
def blkB (X : FVec Ideal S384x1152x128 .f32) (c : Fin 384) : FVec Ideal S1x1152x128 .f32 := fun y => X (ix3 c (y 1) (y 2))

/-- Channel `c`'s column of 256 running counts. -/
def blkE (X : FVec Ideal S384x256x1 .f32) (c : Fin 384) : FVec Ideal S1x256x1 .f32 := fun y => X (ix3 c (y 1) 0)

/-- The digits of a block's bins and the histogram the body makes of them. -/
def histPay (v23 v26 : FVec Ideal S16x9216 .f32) : FVec Ideal S1x16x16 .f32 :=
  k1_pay1 v23 v26 (k1_pay5 (F := Ideal)) (k1_pay14 v23 v26 (k1_pay5 (F := Ideal)) (k1_pay12 v23 v26 (k1_pay5 (F := Ideal))
    (k1_pay9 v23 v26 (k1_pay5 (F := Ideal)) (k1_pay6 (F := Ideal)) (k1_row0 v23) (k1_row0 v26) (constant S16x16 .f32 0x00000000#32))
    (k1_pay10 v23 (k1_pay5 (F := Ideal))) (k1_pay11 v26)) (k1_pay13 v23)) (k1_pay15 v23 (k1_pay5 (F := Ideal)))
    (k1_pay16 v26 (k1_pay5 (F := Ideal)))
where
  /-- The one-hot rows of row 0. -/
  k1_row0 (v : FVec Ideal S16x9216 .f32) : FVec Ideal S16x9216 .f32 :=
    sitofp .f32 (extui 32 (cmpf .oeq (broadcastTo S16x9216 (extractStridedSlice S1x9216 ![0, 0] v slices_S16x9216_o0_0_S1x9216)
      broadcasts_S1x9216_S16x9216) (k1_pay5 (F := Ideal))) natLt_1_32)

/-- The value of the last body as one function of its blocks. -/
def lossPay (x : FVec Ideal S1x1152x128 .f32) (w : FVec Ideal S1152x128 .f32) (e : FVec Ideal S1x256x1 .f32)
    (ct : FVec Ideal S512x1 .f32) : FVec Ideal S1x1x1 .f32 :=
  k4_pay12 (k4_pay2 e) (k4_pay3 ct) (k4_pay4 x w) (k4_pay6 x w) (k4_pay9 x w e) (k4_pay10 x w e) (k4_pay11 (F := Ideal) e)

end Cert.KernelIdeal.Value

end
-- ==== Proof.KHost.lean ====
/-
  What the kernel's program does on the host between its bodies: the arrays it lays out anew and the final quotient,
  and the contents of the buffers each body finds.
-/
module

public import proofs.«01_k».proof.Proof.Gen.KernelIdeal.Frame
public import proofs.«01_k».proof.Proof.Blocks
public import Idealize.ShloMosaic.Lib.Claim

@[expose] public section

set_option maxRecDepth 16384

noncomputable section

open Idealize.ShloMosaic Idealize.ShloMosaic.TcCoe Idealize.SL.Sem

namespace Cert.KernelIdeal.Value

open Cert.KernelIdeal Cert.KernelIdeal.Gen

section
variable (W : Valuation τ sig (Elt Ideal))

theorem host0_v0 : StableHlo.after (hostOps0 (F := Ideal)) W (Proc.devRef .tc main_v0)
    = (shapeCast S384x16x9216 (W (Proc.devRef .tc main_arg1) : FVec Ideal S1x384x384x384 .f32) shapeCasts_S1x384x384x384_S384x16x9216 : FVec Ideal S384x16x9216 .f32) := by
  after_results
  rfl

theorem host0_v1 : StableHlo.after (hostOps0 (F := Ideal)) W (Proc.devRef .tc main_v1)
    = (shapeCast S16x9216 (W (Proc.devRef .tc main_arg2) : FVec Ideal S1x1x384x384 .f32) shapeCasts_S1x1x384x384_S16x9216 : FVec Ideal S16x9216 .f32) := by
  after_results
  rfl

theorem host2_v4 : StableHlo.after (hostOps2 (F := Ideal)) W (Proc.devRef .tc main_v4)
    = (shapeCast S384x256 (W (Proc.devRef .tc main_v3) : FVec Ideal S384x16x16 .f32) shapeCasts_S384x16x16_S384x256 : FVec Ideal S384x256 .f32) := by
  after_results
  rfl

theorem host2_v5 : StableHlo.after (hostOps2 (F := Ideal)) W (Proc.devRef .tc main_v5)
    = (shapeCast S384x1152x128 (W (Proc.devRef .tc main_arg0) : FVec Ideal S1x384x384x384 .f32) shapeCasts_S1x384x384x384_S384x1152x128 : FVec Ideal S384x1152x128 .f32) := by
  after_results
  rfl

theorem host2_v6 : StableHlo.after (hostOps2 (F := Ideal)) W (Proc.devRef .tc main_v6)
    = (shapeCast S1152x128 (W (Proc.devRef .tc main_arg2) : FVec Ideal S1x1x384x384 .f32) shapeCasts_S1x1x384x384_S1152x128 : FVec Ideal S1152x128 .f32) := by
  after_results
  rfl

theorem host4_v9 : StableHlo.after (hostOps4 (F := Ideal)) W (Proc.devRef .tc main_v9)
    = (shapeCast S384x256x1 (W (Proc.devRef .tc main_v8_0) : FVec Ideal S384x256 .f32) shapeCasts_S384x256_S384x256x1 : FVec Ideal S384x256x1 .f32) := by
  after_results
  rfl

/-- The sum over the channels, over the number of values. -/
def meanOf (x : FVec Ideal S384x1x1 .f32) : FVec Ideal S_ .f32 :=
  Host.divf (Host.reduceAdd x (constant S_ .f32 0x00000000#32) reducesTo_S384x1x1_S_d0_1_2 h_S_) (constant S_ .f32 0x4C580000#32)

theorem host5_v12 : StableHlo.after (hostOps5 (F := Ideal)) W (Proc.devRef .tc main_v12)
    = (meanOf (W (Proc.devRef .tc main_v10) : FVec Ideal S384x1x1 .f32) : FVec Ideal S_ .f32) := by
  after_results
  rfl

end

theorem meanOf_at (x : FVec Ideal S384x1x1 .f32) :
    meanOf x ix0 = Ideal.div (∑ c : Fin 384, x (ix3 c 0 0)) (Ideal.ofBits .f32 0x4C580000#32) := by
  have e : meanOf x ix0 = Ideal.div (∑ a : Fin 384, ∑ b : Fin 1, ∑ d : Fin 1, x (ix3 a b d)) (Ideal.ofBits .f32 0x4C580000#32) := by
    pointwise [meanOf]
  rw [e]
  simp

section
variable (x : FVec Ideal S1x384x384x384 .f32) (w : FVec Ideal S1x1x384x384 .f32)

theorem rows_at (c : Fin 384) (p : Fin 16) (q : Fin 9216) : shapeCast S384x16x9216 x shapeCasts_S1x384x384x384_S384x16x9216 (ix3 c p q)
    = x (ix4 0 c ⟨p.val * 24 + q.val / 384, by omega⟩ ⟨q.val % 384, by omega⟩) := by pointwise []
theorem rowsMask_at (p : Fin 16) (q : Fin 9216) : shapeCast S16x9216 w shapeCasts_S1x1x384x384_S16x9216 (ix2 p q)
    = w (ix4 0 0 ⟨p.val * 24 + q.val / 384, by omega⟩ ⟨q.val % 384, by omega⟩) := by pointwise []
theorem tiles_at (c : Fin 384) (p : Fin 1152) (q : Fin 128) : shapeCast S384x1152x128 x shapeCasts_S1x384x384x384_S384x1152x128 (ix3 c p q)
    = x (ix4 0 c ⟨p.val / 3, by omega⟩ ⟨p.val % 3 * 128 + q.val, by omega⟩) := by pointwise []
theorem tilesMask_at (p : Fin 1152) (q : Fin 128) : shapeCast S1152x128 w shapeCasts_S1x1x384x384_S1152x128 (ix2 p q)
    = w (ix4 0 0 ⟨p.val / 3, by omega⟩ ⟨p.val % 3 * 128 + q.val, by omega⟩) := by pointwise []
theorem digits_at (h : FVec Ideal S384x16x16 .f32) (c : Fin 384) (k : Fin 256) : shapeCast S384x256 h shapeCasts_S384x16x16_S384x256 (ix2 c k)
    = h (ix3 c ⟨k.val / 16, by omega⟩ ⟨k.val % 16, by omega⟩) := by pointwise []
theorem tall_at (h : FVec Ideal S384x256 .f32) (c : Fin 384) (k : Fin 256) : shapeCast S384x256x1 h shapeCasts_S384x256_S384x256x1 (ix3 c k 0)
    = h (ix2 c k) := by pointwise []

end

end Cert.KernelIdeal.Value
end
-- ==== Proof.Scalars.lean ====
/-
  Scalars of the two programs over the extended reals: the literals, an indicator, a natural number as a float, the bin of a
  value, and sums of real numbers.
-/
module

public import Idealize.ShloMosaic.Lib.Pointwise
public import Mathlib.Tactic.NormNum
public import Mathlib.Tactic.Positivity
public import Mathlib.Tactic.Linarith
public import Mathlib.Tactic.Ring
public import Mathlib.Tactic.FieldSimp
public import Mathlib.Data.EReal.Operations
public import Mathlib.Algebra.Order.Floor.Ring

@[expose] public section

set_option maxRecDepth 16384

noncomputable section

open Idealize.ShloMosaic

namespace Cert.Proof.Scalars

/-! ## Literals -/

theorem lit_top : Ideal.ofBits .f32 0x7F800000#32 = ⊤ := by
  simp [Ideal.ofBits, Ideal.ieee]
theorem lit_bot : Ideal.ofBits .f32 0xFF800000#32 = ⊥ := by
  simp [Ideal.ofBits, Ideal.ieee]
theorem lit_255 : Ideal.ofBits .f32 0x437F0000#32 = ((255 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_sixteenth : Ideal.ofBits .f32 0x3D800000#32 = ((1 / 16 : ℝ) : EReal) := by
  simp [Ideal.ofBits, Ideal.ieee, -EReal.coe_mul]; norm_num
theorem lit_16 : Ideal.ofBits .f32 0x41800000#32 = ((16 : ℝ) : EReal) := by
  simp [Ideal.ofBits, Ideal.ieee, -EReal.coe_mul]; norm_num
theorem lit_128th : Ideal.ofBits .f32 0x3C000000#32 = ((1 / 128 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_N : Ideal.ofBits .f32 0x48100000#32 = ((147456 : ℝ) : EReal) := by
  simp [Ideal.ofBits, Ideal.ieee, -EReal.coe_mul]; norm_num
theorem lit_all : Ideal.ofBits .f32 0x4C580000#32 = ((56623104 : ℝ) : EReal) := by
  simp [Ideal.ofBits, Ideal.ieee, -EReal.coe_mul]; norm_num

/-- The literal 1e-8 is a positive real. -/
theorem lit_eps : ∃ e : ℝ, 0 < e ∧ Ideal.ofBits .f32 0x322BCC77#32 = (e : EReal) := by
  refine ⟨11258999 * 2 ^ (-50 : ℤ), by positivity, ?_⟩
  simp [Ideal.ofBits, Ideal.ieee, -EReal.coe_mul]

/-! ## Indicators, naturals, sums -/

/-- The float of a comparison's bit is the indicator of the comparison. -/
theorem ind (p : Prop) [Decidable p] :
    (FloatOps.sitofp .f32 (BitVec.setWidth 32 (BitVec.ofBool (decide p))) : Ideal .f32) = (((if p then 1 else 0 : ℝ)) : EReal) := by
  show ((((BitVec.setWidth 32 (BitVec.ofBool (decide p))).toInt : ℝ)) : EReal) = _
  by_cases h : p <;> simp [h]

/-- The float of a 32-bit natural below 2^31 is the natural. -/
theorem ofNat_float (n : ℕ) (h : n < 2 ^ 31) : (FloatOps.sitofp .f32 (BitVec.ofNat 32 n) : Ideal .f32) = (((n : ℝ)) : EReal) := by
  show ((((BitVec.ofNat 32 n).toInt : ℝ)) : EReal) = _
  rw [show (BitVec.ofNat 32 n).toInt = (n : ℤ) from by
    rw [BitVec.toInt_eq_toNat_of_lt] <;> rw [BitVec.toNat_ofNat] <;> omega]
  rw [Int.cast_natCast]

/-- A sum of reals in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

/-- A quotient of reals by a nonzero real. -/
theorem coe_div (a b : ℝ) (h : b ≠ 0) : Ideal.div (a : EReal) (b : EReal) = ((a / b : ℝ) : EReal) := by
  rw [Ideal.div_coe h, ← EReal.coe_mul]
  congr 1
  ring

/-- The floor of a real. -/
theorem floor_coe (a : ℝ) : Ideal.liftRound Int.floor (a : EReal) = (((⌊a⌋ : ℤ) : ℝ) : EReal) := rfl

/-! ## Bins -/

/-- Clipping a 32-bit integer to [0, 255]. -/
theorem clip_int (z : ℤ) (h0 : -2147483648 ≤ z) (h1 : z ≤ 2147483647) :
    IntOp.minsi (255#32) (IntOp.maxsi (0#32) (BitVec.ofInt 32 z)) = BitVec.ofNat 32 (min 255 (max 0 z)).toNat := by
  have hz : (BitVec.ofInt 32 z).toInt = z := by
    rw [BitVec.toInt_ofInt]
    rw [Int.bmod_eq_of_le] <;> omega
  have h255 : (255#32).toInt = 255 := by decide
  have h00 : (0#32).toInt = 0 := by decide
  unfold IntOp.minsi IntOp.maxsi
  rw [show (BitVec.ofInt 32 z).slt (0#32) = decide (z < 0) from by rw [BitVec.slt_eq_decide, hz, h00]]
  by_cases hn : z < 0
  · simp only [hn, decide_true, if_true]
    rw [max_eq_left hn.le]
    decide
  · simp only [hn, decide_false, if_false, Bool.false_eq_true]
    rw [BitVec.slt_eq_decide, hz, h255, max_eq_right (by omega)]
    by_cases hb : 255 < z
    · simp only [hb, decide_true, if_true]
      rw [min_eq_left hb.le]
      decide
    · simp only [hb, decide_false, if_false, Bool.false_eq_true]
      rw [min_eq_right (by omega)]
      apply BitVec.eq_of_toInt_eq
      rw [hz, BitVec.toInt_eq_toNat_of_lt] <;> rw [BitVec.toNat_ofNat] <;> omega

/-- The clipped floor of any extended real is a natural of at most 255, and clipping the converted integer gives the same. -/
theorem exists_bin (e : EReal) : ∃ n : ℕ, n ≤ 255
    ∧ min (Ideal.ofBits .f32 0x437F0000#32) (max 0 (Ideal.liftRound Int.floor e)) = ((n : ℝ) : EReal)
    ∧ IntOp.minsi (255#32) (IntOp.maxsi (0#32) (Ideal.fptosi 32 (Ideal.liftRound Int.floor e))) = BitVec.ofNat 32 n := by
  rw [lit_255]
  induction e with
  | bot =>
    refine ⟨0, by omega, ?_, ?_⟩
    · rw [Ideal.liftRound_bot]; simp
    · rw [Ideal.liftRound_bot]
      exact clip_int _ (by norm_num) (by norm_num)
  | top =>
    refine ⟨255, le_rfl, ?_, ?_⟩
    · rw [Ideal.liftRound_top]; simp
    · rw [Ideal.liftRound_top]
      exact clip_int _ (by norm_num) (by norm_num)
  | coe r =>
    refine ⟨(min 255 (max 0 ⌊r⌋)).toNat, by omega, ?_, ?_⟩
    · rw [floor_coe, show (0 : EReal) = ((0 : ℝ) : EReal) from rfl, coe_max, coe_min]
      congr 1
      have : (((min 255 (max 0 ⌊r⌋)).toNat : ℤ)) = min 255 (max 0 ⌊r⌋) := Int.toNat_of_nonneg (by omega)
      rw [← Int.cast_natCast (R := ℝ), this]
      push_cast
      rfl
    · rw [floor_coe]
      unfold Ideal.fptosi
      rw [Ideal.toIntClamped_coe]
      rw [show (if (0 : ℝ) ≤ ((⌊r⌋ : ℤ) : ℝ) then ⌊((⌊r⌋ : ℤ) : ℝ)⌋ else ⌈((⌊r⌋ : ℤ) : ℝ)⌉) = ⌊r⌋ from by
        rw [Int.floor_intCast, Int.ceil_intCast, ite_self]]
      rw [clip_int _ (by norm_num) (by norm_num)]
      congr 2
      norm_num
      omega

/-- The bin of a value whose unclipped, unfloored bin number is `e`. -/
def bin (e : EReal) : ℕ := Classical.choose (exists_bin e)

theorem bin_le (e : EReal) : bin e ≤ 255 := (Classical.choose_spec (exists_bin e)).1

/-- The clipped floor is the bin. -/
theorem bin_float (e : EReal) :
    min (Ideal.ofBits .f32 0x437F0000#32) (max 0 (Ideal.liftRound Int.floor e)) = ((bin e : ℝ) : EReal) :=
  (Classical.choose_spec (exists_bin e)).2.1

/-- The clipped integer is the bin. -/
theorem bin_int (e : EReal) :
    IntOp.minsi (255#32) (IntOp.maxsi (0#32) (Ideal.fptosi 32 (Ideal.liftRound Int.floor e))) = BitVec.ofNat 32 (bin e) :=
  (Classical.choose_spec (exists_bin e)).2.2

/-- The bin's high digit to base 16, as the floor of a sixteenth of it. -/
theorem bin_high (n : ℕ) : Ideal.liftRound Int.floor (((n : ℝ) : EReal) * Ideal.ofBits .f32 0x3D800000#32) = (((n / 16 : ℕ) : ℝ) : EReal) := by
  rw [lit_sixteenth, ← EReal.coe_mul, floor_coe]
  congr 1
  have h : ⌊(n : ℝ) * (1 / 16)⌋ = ((n / 16 : ℕ) : ℤ) := by
    rw [Int.floor_eq_iff]
    have h1 := Nat.div_add_mod n 16
    have h2 := Nat.mod_lt n (show 16 > 0 by norm_num)
    have h3 : (n : ℝ) = 16 * ((n / 16 : ℕ) : ℝ) + ((n % 16 : ℕ) : ℝ) := by exact_mod_cast h1.symm
    have h4 : ((n % 16 : ℕ) : ℝ) < 16 := by exact_mod_cast h2
    have h5 : (0 : ℝ) ≤ ((n % 16 : ℕ) : ℝ) := Nat.cast_nonneg _
    constructor <;> rw [Int.cast_natCast] <;> linarith
  rw [h, Int.cast_natCast]

/-- The bin's low digit to base 16. -/
theorem bin_low (n : ℕ) : ((n : ℝ) : EReal) - (((n / 16 : ℕ) : ℝ) : EReal) * Ideal.ofBits .f32 0x41800000#32 = (((n % 16 : ℕ) : ℝ) : EReal) := by
  rw [lit_16, ← EReal.coe_mul, ← EReal.coe_sub]
  congr 1
  have := Nat.div_add_mod n 16
  have h : (n : ℝ) = 16 * ((n / 16 : ℕ) : ℝ) + ((n % 16 : ℕ) : ℝ) := by exact_mod_cast this.symm
  linarith

end Cert.Proof.Scalars

end
-- ==== Proof.KHist.lean ====
/-
  The histogram body: of a block whose value at row `s`, column `x` lies in bin `b s x`, the stored value at digits `p`, `r`
  is the number of the block's positions whose bin is `16 p + r`.
-/
module

public import proofs.«01_k».proof.Proof.Blocks
public import proofs.«01_k».proof.Proof.Scalars

@[expose] public section

set_option maxRecDepth 16384

noncomputable section

open Idealize.ShloMosaic Idealize.ShloMosaic.TcCoe Idealize.SL.Sem

namespace Cert.KernelIdeal.Value

open Cert.KernelIdeal Cert.KernelIdeal.Gen
open Cert.Proof.Scalars

/-- A sum of sixteen terms, written out. -/
theorem sum16 (g : Fin 16 → EReal) : ∑ s, g s
    = g 0 + g 1 + g 2 + g 3 + g 4 + g 5 + g 6 + g 7 + g 8 + g 9 + g 10 + g 11 + g 12 + g 13 + g 14 + g 15 := by
  simp only [Fin.sum_univ_succ, Fin.sum_univ_zero, add_zero, add_assoc]
  rfl

/-- The body's value as one sum over the rows and columns of products of two indicators. -/
theorem histPay_at (v23 v26 : FVec Ideal S16x9216 .f32) (p r : Fin 16) :
    histPay v23 v26 (ix3 0 p r) = ∑ s : Fin 16, ∑ x : Fin 9216,
      (((if v23 (ix2 s x) = k1_pay5 (F := Ideal) (ix2 p x) then 1 else 0 : ℝ) : EReal))
        * (((if v26 (ix2 s x) = k1_pay5 (F := Ideal) (ix2 r x) then 1 else 0 : ℝ) : EReal)) := by
  rw [sum16]
  pointwise [histPay, histPay.k1_row0, k1_pay1, k1_pay14, k1_pay12, k1_pay9, k1_pay6, k1_pay10, k1_pay11, k1_pay13, k1_pay15, k1_pay16, ind]

/-- The number of positions of a block whose bin is `k`. -/
def tally (b : Fin 16 → Fin 9216 → ℕ) (k : ℕ) : ℕ := ∑ s, ∑ x, if b s x = k then 1 else 0

/-- The stored value at the digits `p`, `r`, once the two digit blocks hold the high and the low digits of the bins. -/
theorem histPay_tally (v23 v26 : FVec Ideal S16x9216 .f32) (b : Fin 16 → Fin 9216 → ℕ)
    (hhi : ∀ s x, v23 (ix2 s x) = (((b s x / 16 : ℕ) : ℝ) : EReal))
    (hlo : ∀ s x, v26 (ix2 s x) = (((b s x % 16 : ℕ) : ℝ) : EReal)) (p r : Fin 16) :
    histPay v23 v26 (ix3 0 p r) = ((tally b (16 * p.val + r.val) : ℝ) : EReal) := by
  have h5 : ∀ (p : Fin 16) (x : Fin 9216), k1_pay5 (F := Ideal) (ix2 p x) = ((p.val : ℝ) : EReal) := by
    intro p x
    pointwise [k1_pay5]
    exact ofNat_float p.val (by omega)
  rw [histPay_at]
  have hterm : ∀ s x, (((if v23 (ix2 s x) = k1_pay5 (F := Ideal) (ix2 p x) then 1 else 0 : ℝ) : EReal))
        * (((if v26 (ix2 s x) = k1_pay5 (F := Ideal) (ix2 r x) then 1 else 0 : ℝ) : EReal))
      = (((if b s x = 16 * p.val + r.val then 1 else 0 : ℕ) : ℝ) : EReal) := by
    intro s x
    rw [hhi, hlo, h5, h5]
    have e1 : ((((b s x / 16 : ℕ) : ℝ) : EReal) = ((p.val : ℝ) : EReal)) ↔ b s x / 16 = p.val := by
      rw [EReal.coe_eq_coe_iff, Nat.cast_inj]
    have e2 : ((((b s x % 16 : ℕ) : ℝ) : EReal) = ((r.val : ℝ) : EReal)) ↔ b s x % 16 = r.val := by
      rw [EReal.coe_eq_coe_iff, Nat.cast_inj]
    simp only [e1, e2]
    rw [← EReal.coe_mul]
    congr 1
    have hp := p.isLt
    have hr := r.isLt
    by_cases h1 : b s x / 16 = p.val <;> by_cases h2 : b s x % 16 = r.val
    · have : b s x = 16 * p.val + r.val := by omega
      simp [h1, h2, this]
      omega
    · have : b s x ≠ 16 * p.val + r.val := by omega
      simp [h1, h2, this]
    · have : b s x ≠ 16 * p.val + r.val := by omega
      simp [h1, h2, this]
    · have : b s x ≠ 16 * p.val + r.val := by omega
      simp [h1, h2, this]
  simp only [hterm]
  rw [tally]
  simp only [coe_sum]
  norm_cast

end Cert.KernelIdeal.Value
end
-- ==== Proof.Math.lean ====
/-
  The mathematics of the equation, over natural and real numbers alone.

  A table `g 0 … g 256` is read at the index `idx j = #{k < 256 | H k < j + 1}` of each position `j`, where `H` is an
  increasing sequence of natural numbers (a running histogram). A sum over the positions of the table's entry there is a
  sum over the 256 bins, because `idx j ≤ k` says exactly that `j < H k`: the positions of index at most `k` are a prefix.
-/
module

public import Mathlib.Algebra.BigOperators.Intervals
public import Mathlib.Algebra.BigOperators.Fin
public import Mathlib.Algebra.BigOperators.Ring.Finset
public import Mathlib.Data.Nat.Count
public import Mathlib.Data.Real.Basic
public import Mathlib.Tactic.Ring
public import Mathlib.Tactic.Linarith

@[expose] public section

noncomputable section

namespace Cert.Proof.Math

open scoped BigOperators

/-- The number of bins whose running count lies below `j + 1`: the index at which position `j` reads the table. -/
def idx (H : ℕ → ℕ) (j : ℕ) : ℕ := Nat.count (fun k => H k < j + 1) 256

theorem idx_le (H : ℕ → ℕ) (j : ℕ) : idx H j ≤ 256 := Nat.count_le _

/-- With the last running count above `j`, the index is a bin. -/
theorem idx_lt (H : ℕ → ℕ) (j : ℕ) (h : j < H 255) : idx H j < 256 := by
  unfold idx
  rw [show (256 : ℕ) = 255 + 1 from rfl, Nat.count_succ, if_neg (by omega)]
  have := Nat.count_le (p := fun k => H k < j + 1) (n := 255)
  omega

/-- The index is at most `k` exactly when position `j` lies before the running count of bin `k`. -/
theorem idx_le_iff (H : ℕ → ℕ) (hH : ∀ a b, a ≤ b → b < 256 → H a ≤ H b) (j k : ℕ) (hk : k < 256) :
    idx H j ≤ k ↔ j < H k := by
  have key : H k < j + 1 ↔ k < idx H j := by
    constructor
    · intro h
      have h1 : Nat.count (fun k => H k < j + 1) (k + 1) = k + 1 :=
        Nat.count_iff_forall.mpr fun a ha => lt_of_le_of_lt (hH a k (by omega) hk) h
      have h2 := Nat.count_monotone (fun k => H k < j + 1) (show k + 1 ≤ 256 from hk)
      unfold idx
      omega
    · intro h
      by_contra hn
      have h1 : ∀ b, k ≤ b → b ≤ 256 → Nat.count (fun k => H k < j + 1) b ≤ k := by
        intro b hb
        induction b, hb using Nat.le_induction with
        | base => exact fun _ => Nat.count_le _
        | succ b hb ih =>
          intro hb'
          rw [Nat.count_succ, if_neg (by have := hH k b hb (by omega); omega)]
          have := ih (by omega)
          omega
      have := h1 256 (by omega) le_rfl
      unfold idx at h
      omega
  omega

/-- The table at an index `i ≤ 256`, as its last entry plus the differences from `i` on. -/
theorem telescope (g : ℕ → ℝ) (i : ℕ) (hi : i ≤ 256) :
    g i = (∑ k ∈ Finset.range 256, if i ≤ k then g k - g (k + 1) else 0) + g 256 := by
  have h : ∀ n, i ≤ n → (∑ k ∈ Finset.range n, if i ≤ k then g k - g (k + 1) else 0) = g i - g n := by
    intro n hn
    induction n, hn using Nat.le_induction with
    | base =>
      rw [Finset.sum_eq_zero fun k hk => if_neg (by have := Finset.mem_range.1 hk; omega), sub_self]
    | succ n hn ih => rw [Finset.sum_range_succ, ih, if_pos hn]; ring
  rw [h 256 hi]; ring

/-- A weighted sum over the positions of the table's entry there: bin by bin, the weights before the bin's running count
    times the table's difference, and the last entry times all the weights. -/
theorem sum_table {n : ℕ} (H : ℕ → ℕ) (hH : ∀ a b, a ≤ b → b < 256 → H a ≤ H b) (g : ℕ → ℝ) (w : Fin n → ℝ) :
    ∑ j : Fin n, g (idx H j) * w j
      = (∑ k ∈ Finset.range 256, (∑ j : Fin n, if j.val < H k then w j else 0) * (g k - g (k + 1))) + g 256 * ∑ j, w j := by
  have h1 : ∀ j : Fin n, g (idx H j) * w j
      = (∑ k ∈ Finset.range 256, (if j.val < H k then w j else 0) * (g k - g (k + 1))) + g 256 * w j := by
    intro j
    rw [telescope g (idx H j) (idx_le H j), add_mul, Finset.sum_mul]
    congr 1
    refine Finset.sum_congr rfl fun k hk => ?_
    rw [if_congr (idx_le_iff H hH j k (Finset.mem_range.1 hk)) rfl rfl]
    split <;> ring
  rw [Finset.sum_congr rfl fun j _ => h1 j, Finset.sum_add_distrib, Finset.sum_comm, ← Finset.mul_sum]
  congr 1
  exact Finset.sum_congr rfl fun k _ => (Finset.sum_mul _ _ _).symm

/-- Summation by parts: entries times the steps of `h`, and entries' differences times `h`. -/
theorem by_parts (a h : ℕ → ℝ) (n : ℕ) :
    ∑ k ∈ Finset.range (n + 1), a k * (h k - if k = 0 then 0 else h (k - 1))
      = (∑ k ∈ Finset.range (n + 1), h k * (a k - a (k + 1))) + a (n + 1) * h n := by
  induction n with
  | zero => simp; ring
  | succ n ih =>
    rw [Finset.sum_range_succ, ih, Finset.sum_range_succ _ (n + 1), if_neg (by omega), Nat.add_sub_cancel]
    ring

/-- The number of positions below `h`, for `h` at most their number. -/
theorem sum_below {n : ℕ} (h : ℕ) (hn : h ≤ n) : ∑ j : Fin n, (if j.val < h then (1 : ℝ) else 0) = h := by
  rw [Fin.sum_univ_eq_sum_range (fun j => if j < h then (1 : ℝ) else 0) n, ← Finset.sum_filter]
  rw [Finset.sum_const, nsmul_eq_mul, mul_one]
  congr 1
  rw [show (Finset.range n).filter (fun j => j < h) = Finset.range h from by
    ext j; simp only [Finset.mem_filter, Finset.mem_range]; omega]
  exact Finset.card_range h

/-- The channel's sum of squared distances, expanded over the bins: what the kernel computes for the channel. -/
theorem channel {n : ℕ} (H : ℕ → ℕ) (hH : ∀ a b, a ≤ b → b < 256 → H a ≤ H b) (hn : H 255 = n) (g : ℕ → ℝ) (f : Fin n → ℝ) :
    ∑ j : Fin n, (g (idx H j) - f j) * (g (idx H j) - f j)
      = ((∑ k ∈ Finset.range 256, g k * g k * ((H k : ℝ) - if k = 0 then 0 else (H (k - 1) : ℝ)))
          + g 256 * g 256 * ((n : ℝ) - (H 255 : ℝ)))
        - 2 * ((∑ k ∈ Finset.range 256, (∑ j : Fin n, if j.val < H k then f j else 0) * (g k - g (k + 1)))
          + g 256 * ∑ j, f j)
        + ∑ j, f j * f j := by
  have h1 : ∀ j : Fin n, (g (idx H j) - f j) * (g (idx H j) - f j)
      = (fun k => g k * g k) (idx H j) * (fun _ => (1 : ℝ)) j - 2 * (g (idx H j) * f j) + f j * f j := fun j => by ring
  rw [Finset.sum_congr rfl fun j _ => h1 j, Finset.sum_add_distrib, Finset.sum_sub_distrib, ← Finset.mul_sum,
    sum_table H hH (fun k => g k * g k) (fun _ => 1), sum_table H hH g f]
  have h2 := by_parts (fun k => g k * g k) (fun k => (H k : ℝ)) 255
  rw [show (255 : ℕ) + 1 = 256 from rfl] at h2
  rw [h2]
  have h3 : ∀ k ∈ Finset.range 256, (∑ j : Fin n, if j.val < H k then (fun _ => (1 : ℝ)) j else 0) * ((fun k => g k * g k) k - (fun k => g k * g k) (k + 1))
      = (H k : ℝ) * (g k * g k - g (k + 1) * g (k + 1)) := fun k hk => by
    have := sum_below (n := n) (H k) (hn ▸ hH k 255 (by have := Finset.mem_range.1 hk; omega) (by omega))
    simp only [this]
  rw [Finset.sum_congr rfl h3, hn, Finset.sum_const, Finset.card_univ, Fintype.card_fin, nsmul_eq_mul, mul_one]
  ring

/-- A prefix of a row-major matrix of 128 columns: the whole rows before the prefix's last row, and the start of that row. -/
theorem prefix_split {R : ℕ} (f : ℕ → ℝ) (e : ℕ) (he : e ≤ 128 * R) :
    (∑ q ∈ Finset.range R, (if q < e / 128 then (∑ r ∈ Finset.range 128, f (128 * q + r)) else 0))
      + (∑ r ∈ Finset.range 128, (∑ q ∈ Finset.range R, if q = e / 128 then f (128 * q + r) else 0) * (if r < e % 128 then 1 else 0))
      = ∑ j ∈ Finset.range (128 * R), if j < e then f j else 0 := by
  have h1 : ∀ M : ℕ, ∑ q ∈ Finset.range M, (∑ r ∈ Finset.range 128, f (128 * q + r)) = ∑ j ∈ Finset.range (128 * M), f j := by
    intro M
    induction M with
    | zero => simp
    | succ M ih => rw [Finset.sum_range_succ, ih, Nat.mul_succ, Finset.sum_range_add]
  have h2 : (Finset.range R).filter (fun q => q < e / 128) = Finset.range (e / 128) := by
    ext q; simp only [Finset.mem_filter, Finset.mem_range]; omega
  have h3 : (Finset.range (128 * R)).filter (fun j => j < e) = Finset.range e := by
    ext q; simp only [Finset.mem_filter, Finset.mem_range]; omega
  have h4 : (Finset.range 128).filter (fun r => r < e % 128) = Finset.range (e % 128) := by
    ext q; simp only [Finset.mem_filter, Finset.mem_range]; omega
  rw [← Finset.sum_filter, h2, h1, ← Finset.sum_filter, h3]
  have h5 : ∀ r ∈ Finset.range 128, (∑ q ∈ Finset.range R, if q = e / 128 then f (128 * q + r) else 0) * (if r < e % 128 then 1 else 0)
      = if r < e % 128 then f (128 * (e / 128) + r) else 0 := by
    intro r _
    split
    · rw [mul_one, Finset.sum_ite_eq' (Finset.range R) (e / 128)]
      rw [if_pos (Finset.mem_range.2 (by omega))]
    · rw [mul_zero]
  rw [Finset.sum_congr rfl h5, ← Finset.sum_filter, h4]
  conv_rhs => rw [show e = 128 * (e / 128) + e % 128 from (Nat.div_add_mod e 128).symm, Finset.sum_range_add]

/-- The sum of the last `d` values of `h` up to and including position `k`. -/
def window (h : ℕ → ℕ) (d k : ℕ) : ℕ := ∑ i ∈ Finset.range d, if i ≤ k then h (k - i) else 0

/-- A window of twice the width is the window here plus the window `d` positions back. -/
theorem window_double (h : ℕ → ℕ) (d k : ℕ) :
    window h (d + d) k = window h d k + if k < d then 0 else window h d (k - d) := by
  unfold window
  rw [Finset.sum_range_add]
  congr 1
  split
  · exact Finset.sum_eq_zero fun i _ => if_neg (by omega)
  · refine Finset.sum_congr rfl fun i _ => ?_
    by_cases hi : d + i ≤ k
    · rw [if_pos hi, if_pos (by omega), show k - (d + i) = k - d - i by omega]
    · rw [if_neg hi, if_neg (by omega)]

theorem window_one (h : ℕ → ℕ) (k : ℕ) : window h 1 k = h k := by simp [window]

/-- A window wider than the position holds the whole running sum. -/
theorem window_all (h : ℕ → ℕ) (d k : ℕ) (hd : k < d) : window h d k = ∑ i ∈ Finset.range (k + 1), h i := by
  unfold window
  rw [← Finset.sum_filter, show (Finset.range d).filter (fun i => i ≤ k) = Finset.range (k + 1) from by
    ext i; simp only [Finset.mem_filter, Finset.mem_range]; omega]
  rw [← Finset.sum_range_reflect (fun i => h i)]
  exact Finset.sum_congr rfl fun i _ => by rw [Nat.add_sub_cancel]

end Cert.Proof.Math

end
-- ==== Proof.Table.lean ====
/-
  The reading table: for a monotone table of running sums `H`, the entry `k` is what inverse interpolation of the running
  sums at `k + 1` gives on the scale that starts at `lo` and has the given step. All values are real numbers.
-/
module

public import proofs.«01_k».proof.Proof.Math
public import proofs.«01_k».proof.Proof.Scalars

@[expose] public section

set_option maxRecDepth 16384

noncomputable section

open Idealize.ShloMosaic

namespace Cert.Proof.Math

open Cert.Proof.Scalars

/-- The small positive constant added to the denominator of the interpolation. -/
def eps : ℝ := Classical.choose lit_eps

theorem eps_pos : 0 < eps := (Classical.choose_spec lit_eps).1

theorem eps_lit : Ideal.ofBits .f32 0x322BCC77#32 = (eps : EReal) := (Classical.choose_spec lit_eps).2

/-- The running sum before entry `i`: zero before the first. -/
def prev (H : ℕ → ℕ) (i : ℕ) : ℕ := if i = 0 then 0 else H (i - 1)

/-- The clipped fraction of the way into its bin of position `k + 1`. -/
def frac (H : ℕ → ℕ) (k : ℕ) : ℝ :=
  min 1 (max 0 (((k : ℝ) + 1 - (prev H (idx H k) : ℝ)) / (eps + (H (idx H k) : ℝ))))

/-- The table entry `k`. -/
def table (lo step : ℝ) (H : ℕ → ℕ) (k : ℕ) : ℝ := lo + (frac H k + (idx H k : ℝ)) * step

/-- The denominator of the interpolation is positive. -/
theorem den_ne (n : ℕ) : eps + (n : ℝ) ≠ 0 := ne_of_gt (by have := eps_pos; positivity)

/-- The fraction as the quotient of extended reals that is computed. -/
theorem frac_coe (H : ℕ → ℕ) (k : ℕ) :
    min (1 : EReal) (max 0 (Ideal.div ((((k : ℝ) + 1 : ℝ) : EReal) - ((prev H (idx H k) : ℝ) : EReal))
      ((eps : EReal) + ((H (idx H k) : ℝ) : EReal)))) = ((frac H k : ℝ) : EReal) := by
  rw [← EReal.coe_sub, ← EReal.coe_add, coe_div _ _ (den_ne _), ← EReal.coe_zero, coe_max, ← EReal.coe_one, coe_min]
  rfl

/-- The table entry as computed: the step is the width of the scale divided by 256. -/
theorem table_coe (lo hi : ℝ) (H : ℕ → ℕ) (k : ℕ) :
    (lo : EReal) + (((frac H k : ℝ) : EReal) + ((idx H k : ℝ) : EReal)) * Ideal.div ((hi : EReal) - (lo : EReal)) (Ideal.ofBits .f32 0x43800000#32)
      = ((table lo ((hi - lo) / 256) H k : ℝ) : EReal) := by
  rw [lit_256, ← EReal.coe_sub, coe_div _ _ (by norm_num), ← EReal.coe_add, ← EReal.coe_mul, ← EReal.coe_add]
  rfl

/-- A one-hot row picks one entry of a table, or nothing when the index lies outside it. -/
theorem pick (n a i : ℕ) (G : Fin n → EReal) :
    ∑ x : Fin n, (((if i = a + x.val then 1 else 0 : ℝ) : EReal)) * G x
      = if h : a ≤ i ∧ i - a < n then G ⟨i - a, h.2⟩ else 0 := by
  classical
  split_ifs with h
  · rw [Finset.sum_eq_single ⟨i - a, h.2⟩]
    · have : i = a + (i - a) := by omega
      simp [← this]
    · intro b _ hb
      have : i ≠ a + b.val := fun e => hb (Fin.ext (by simp only; omega))
      simp [this]
    · intro hn; exact absurd (Finset.mem_univ _) hn
  · refine Finset.sum_eq_zero fun b _ => ?_
    have : i ≠ a + b.val := by have := b.isLt; omega
    simp [this]

/-- The number of table entries below `k + 1` is the index of `k`. -/
theorem idx_count (H : ℕ → ℕ) (k : ℕ) : (∑ x : Fin 256, if H x.val < k + 1 then 1 else 0) = idx H k := by
  rw [Fin.sum_univ_eq_sum_range (fun x => if H x < k + 1 then 1 else 0) 256, idx, Nat.count_eq_card_filter_range,
    Finset.card_filter]

end Cert.Proof.Math
end
-- ==== Proof.Spec.lean ====
/-
  The quantities both programs compute, over plain functions of a channel and a position: the scale of a channel, the bin of a value,
  how many values fall into a bin, the cumulative count, and the sum of squared differences from the corrected table.
-/
module

public import proofs.«01_k».proof.Proof.Table
public import Idealize.ShloMosaic.Lib.Pointwise

@[expose] public section

noncomputable section

open Idealize.ShloMosaic Finset

namespace Cert.Proof.Spec

open Cert.Proof.Scalars Cert.Proof.Math

/-- The least of the values of a channel. -/
def least (v : Fin 147456 → EReal) : EReal := Finset.fold min (Ideal.ofBits .f32 0x7F800000#32) v univ

/-- The greatest of the values of a channel. -/
def greatest (v : Fin 147456 → EReal) : EReal := Finset.fold max (Ideal.ofBits .f32 0xFF800000#32) v univ

/-- Where a value lies on the scale from `lo` to `hi`, in units of about a 256th of it. -/
def quo (v lo hi : EReal) : EReal :=
  Ideal.div (v - lo) (Ideal.div (hi - lo) (Ideal.ofBits .f32 0x43800000#32) + Ideal.ofBits .f32 0x2B8CBCCC#32)

/-- The masked value of channel `c` at the flat position `j`. -/
def masked (x : FVec Ideal ⟨4, ![1, 384, 384, 384]⟩ .f32) (w : FVec Ideal ⟨4, ![1, 1, 384, 384]⟩ .f32) (c : Fin 384) (j : Fin 147456) : EReal :=
  x (ix4 0 c ⟨j.val / 384, by omega⟩ ⟨j.val % 384, by omega⟩) * w (ix4 0 0 ⟨j.val / 384, by omega⟩ ⟨j.val % 384, by omega⟩)

/-- The bin of position `j` of channel `c`. -/
def code (s : Fin 384 → Fin 147456 → EReal) (c : Fin 384) (j : Fin 147456) : ℕ := bin (quo (s c j) (least (s c)) (greatest (s c)))

/-- The number of positions of channel `c` in bin `k`. -/
def occ (n : Fin 384 → Fin 147456 → ℕ) (c : Fin 384) (k : ℕ) : ℕ := ∑ j, if n c j = k then 1 else 0

/-- The number of positions of channel `c` in the bins up to `k`. -/
def cum (n : Fin 384 → Fin 147456 → ℕ) (c : Fin 384) (k : ℕ) : ℕ := ∑ i ∈ range (k + 1), occ n c i

/-- The sum over channels and positions of the squared difference between the table entry of the position's index and the value. -/
def total (lo hi : ℝ) (n : Fin 384 → Fin 147456 → ℕ) (f : Fin 384 → Fin 147456 → ℝ) : ℝ :=
  ∑ c, ∑ j, (table lo ((hi - lo) / 256) (cum n 0) (idx (cum n c) j.val) - f c j) * (table lo ((hi - lo) / 256) (cum n 0) (idx (cum n c) j.val) - f c j)

theorem code_le (s : Fin 384 → Fin 147456 → EReal) (c : Fin 384) (j : Fin 147456) : code s c j ≤ 255 := bin_le _

/-- A count is at most the number of positions. -/
theorem occ_le (n : Fin 384 → Fin 147456 → ℕ) (c : Fin 384) (k : ℕ) : occ n c k ≤ 147456 := by
  refine (Finset.sum_le_sum (g := fun _ => 1) fun j _ => by split_ifs <;> omega).trans (by simp)

/-- Every position lies in one of the 256 bins. -/
theorem occ_sum (n : Fin 384 → Fin 147456 → ℕ) (hn : ∀ c j, n c j ≤ 255) (c : Fin 384) : ∑ k ∈ range 256, occ n c k = 147456 := by
  unfold occ
  rw [Finset.sum_comm]
  have : ∀ j : Fin 147456, (∑ k ∈ range 256, if n c j = k then 1 else 0) = 1 := fun j => by
    rw [Finset.sum_ite_eq, if_pos (Finset.mem_range.2 (by have := hn c j; omega))]
  rw [Finset.sum_congr rfl fun j _ => this j]
  simp

theorem cum_last (n : Fin 384 → Fin 147456 → ℕ) (hn : ∀ c j, n c j ≤ 255) (c : Fin 384) : cum n c 255 = 147456 := occ_sum n hn c

theorem cum_mono (n : Fin 384 → Fin 147456 → ℕ) (c : Fin 384) (a b : ℕ) (h : a ≤ b) : cum n c a ≤ cum n c b :=
  Finset.sum_le_sum_of_subset (Finset.range_mono (by omega))

theorem index_lt (n : Fin 384 → Fin 147456 → ℕ) (hn : ∀ c j, n c j ≤ 255) (c : Fin 384) (j : ℕ) (hj : j < 147456) : idx (cum n c) j < 256 :=
  idx_lt _ _ (by rw [cum_last n hn]; exact hj)

/-- The index of a position as a bounded number. -/
theorem index_fin (n : Fin 384 → Fin 147456 → ℕ) (hn : ∀ c j, n c j ≤ 255) (c : Fin 384) (j : Fin 147456) :
    ∃ i : Fin 256, i.val = idx (cum n c) j.val := ⟨⟨idx (cum n c) j.val, index_lt n hn c j.val j.isLt⟩, by simp only⟩

/-- The least of finite values is finite. -/
theorem least_real (v : Fin 147456 → EReal) (f : Fin 147456 → ℝ) (hv : ∀ j, v j = (f j : EReal)) : ∃ r : ℝ, least v = (r : EReal) := by
  classical
  have key : ∀ s : Finset (Fin 147456), Finset.fold min (⊤ : EReal) v s = ⊤ ∨ ∃ j, Finset.fold min (⊤ : EReal) v s = v j := by
    intro s
    induction s using Finset.induction_on with
    | empty => exact Or.inl rfl
    | insert a s ha ih =>
      rw [Finset.fold_insert ha]
      rcases min_choice (v a) (Finset.fold min (⊤ : EReal) v s) with h | h
      · exact Or.inr ⟨a, h⟩
      · rw [h]; exact ih
  unfold least
  rw [lit_top]
  rcases key univ with h | ⟨j, h⟩
  · have hle : Finset.fold min (⊤ : EReal) v univ ≤ v 0 := (Finset.fold_min_le _).2 (Or.inr ⟨0, Finset.mem_univ _, le_rfl⟩)
    rw [h, hv, top_le_iff] at hle
    exact absurd hle (EReal.coe_ne_top _)
  · exact ⟨f j, by rw [h, hv]⟩

/-- The greatest of finite values is finite. -/
theorem greatest_real (v : Fin 147456 → EReal) (f : Fin 147456 → ℝ) (hv : ∀ j, v j = (f j : EReal)) : ∃ r : ℝ, greatest v = (r : EReal) := by
  classical
  have key : ∀ s : Finset (Fin 147456), Finset.fold max (⊥ : EReal) v s = ⊥ ∨ ∃ j, Finset.fold max (⊥ : EReal) v s = v j := by
    intro s
    induction s using Finset.induction_on with
    | empty => exact Or.inl rfl
    | insert a s ha ih =>
      rw [Finset.fold_insert ha]
      rcases max_choice (v a) (Finset.fold max (⊥ : EReal) v s) with h | h
      · exact Or.inr ⟨a, h⟩
      · rw [h]; exact ih
  unfold greatest
  rw [lit_bot]
  rcases key univ with h | ⟨j, h⟩
  · have hle : v 0 ≤ Finset.fold max (⊥ : EReal) v univ := (Finset.le_fold_max _).2 (Or.inr ⟨0, Finset.mem_univ _, le_rfl⟩)
    rw [h, hv, le_bot_iff] at hle
    exact absurd hle (EReal.coe_ne_bot _)
  · exact ⟨f j, by rw [h, hv]⟩

/-- A fold over the rows and columns of a tiling of the positions is the fold over the positions. -/
theorem fold_tiles (op : EReal → EReal → EReal) [Std.Commutative op] [Std.Associative op] (b : EReal) (m n : ℕ) (h : 147456 = m * n)
    (v : Fin 147456 → EReal) (w : Fin m × Fin n → EReal) (hw : ∀ y (l : y.1.val * n + y.2.val < 147456), w y = v ⟨y.1.val * n + y.2.val, l⟩) :
    Finset.fold op b w univ = Finset.fold op b v univ := by
  have e : (univ : Finset (Fin 147456)) = (univ : Finset (Fin m × Fin n)).map (finProdFinEquiv.trans (finCongr h.symm)).toEmbedding := by
    rw [Finset.map_univ_equiv]
  rw [e, Finset.fold_map]
  refine Finset.fold_congr fun y _ => ?_
  have hlt : y.1.val * n + y.2.val < 147456 := by
    have := (finProdFinEquiv y).isLt
    rw [finProdFinEquiv_apply_val] at this
    rw [h]; linarith [Nat.mul_comm n y.1.val]
  rw [hw y hlt]
  refine congrArg v (Fin.ext ?_)
  show y.1.val * n + y.2.val = (finProdFinEquiv y).val
  rw [finProdFinEquiv_apply_val, Nat.mul_comm]; omega

end Cert.Proof.Spec
end
-- ==== Proof.KMinMax.lean ====
/-
  The least and greatest of a channel as the kernel's bodies compute them, and the digits of the bins.
-/
module

public import proofs.«01_k».proof.Proof.KHist
public import proofs.«01_k».proof.Proof.Spec

@[expose] public section

set_option maxRecDepth 16384

noncomputable section

open Idealize.ShloMosaic Idealize.ShloMosaic.TcCoe Idealize.SL.Sem

namespace Cert.KernelIdeal.Value

open Cert.KernelIdeal Cert.KernelIdeal.Gen
open Cert.Proof.Scalars Cert.Proof.Spec

/-- The products of a 16×9216 block and the mask are the values `s` at the flat positions. -/
def OnRows (x : FVec Ideal S1x16x9216 .f32) (w : FVec Ideal S16x9216 .f32) (s : Fin 147456 → EReal) : Prop :=
  ∀ (p : Fin 16) (q : Fin 9216) (l : p.val * 9216 + q.val < 147456), x (ix3 0 p q) * w (ix2 p q) = s ⟨p.val * 9216 + q.val, l⟩

/-- The products of a 1152×128 block and the mask are the values `s` at the flat positions. -/
def OnTiles (x : FVec Ideal S1x1152x128 .f32) (w : FVec Ideal S1152x128 .f32) (s : Fin 147456 → EReal) : Prop :=
  ∀ (p : Fin 1152) (q : Fin 128) (l : p.val * 128 + q.val < 147456), x (ix3 0 p q) * w (ix2 p q) = s ⟨p.val * 128 + q.val, l⟩

theorem k0_pay2_at (x w s) (h : OnRows x w s) : k0_pay2 (F := Ideal) x w (ix3 0 0 0) = least s := by
  have e : k0_pay2 (F := Ideal) x w (ix3 0 0 0) = Finset.fold min (Ideal.ofBits .f32 0x7F800000#32)
      (fun y : Fin 16 × Fin 9216 => x (ix3 0 y.1 y.2) * w (ix2 y.1 y.2)) Finset.univ := by
    pointwise [k0_pay2, k0_pay1]
  rw [e]
  exact fold_tiles min _ 16 9216 (by norm_num) s _ fun y l => h y.1 y.2 l

theorem k0_pay3_at (x w s) (h : OnRows x w s) : k0_pay3 (F := Ideal) x w (ix3 0 0 0) = greatest s := by
  have e : k0_pay3 (F := Ideal) x w (ix3 0 0 0) = Finset.fold max (Ideal.ofBits .f32 0xFF800000#32)
      (fun y : Fin 16 × Fin 9216 => x (ix3 0 y.1 y.2) * w (ix2 y.1 y.2)) Finset.univ := by
    pointwise [k0_pay3, k0_pay1]
  rw [e]
  exact fold_tiles max _ 16 9216 (by norm_num) s _ fun y l => h y.1 y.2 l

theorem k2_pay2_at (x w s) (h : OnTiles x w s) : k2_pay2 (F := Ideal) x w (ix3 0 0 0) = least s := by
  have e : k2_pay2 (F := Ideal) x w (ix3 0 0 0) = Finset.fold min (Ideal.ofBits .f32 0x7F800000#32)
      (fun y : Fin 1152 × Fin 128 => x (ix3 0 y.1 y.2) * w (ix2 y.1 y.2)) Finset.univ := by
    pointwise [k2_pay2, k2_pay1]
  rw [e]
  exact fold_tiles min _ 1152 128 (by norm_num) s _ fun y l => h y.1 y.2 l

theorem k2_pay3_at (x w s) (h : OnTiles x w s) : k2_pay3 (F := Ideal) x w (ix3 0 0 0) = greatest s := by
  have e : k2_pay3 (F := Ideal) x w (ix3 0 0 0) = Finset.fold max (Ideal.ofBits .f32 0xFF800000#32)
      (fun y : Fin 1152 × Fin 128 => x (ix3 0 y.1 y.2) * w (ix2 y.1 y.2)) Finset.univ := by
    pointwise [k2_pay3, k2_pay1]
  rw [e]
  exact fold_tiles max _ 1152 128 (by norm_num) s _ fun y l => h y.1 y.2 l

section
variable (x : FVec Ideal S1x16x9216 .f32) (w : FVec Ideal S16x9216 .f32) (lo hi : FVec Ideal S1x1x1 .f32)

/-- The bin of an entry, as a number. -/
theorem k1_pay2_at (p : Fin 16) (q : Fin 9216) : k1_pay2 (F := Ideal) x w lo hi (ix2 p q)
    = ((bin (quo (x (ix3 0 p q) * w (ix2 p q)) (lo (ix3 0 0 0)) (hi (ix3 0 0 0))) : ℝ) : EReal) := by
  pointwise [k1_pay2]
  exact bin_float _

/-- Its high digit. -/
theorem k1_pay3_at (p : Fin 16) (q : Fin 9216) : k1_pay3 (F := Ideal) x w lo hi (ix2 p q)
    = (((bin (quo (x (ix3 0 p q) * w (ix2 p q)) (lo (ix3 0 0 0)) (hi (ix3 0 0 0))) / 16 : ℕ) : ℝ) : EReal) := by
  pointwise [k1_pay3]
  rw [k1_pay2_at]
  exact bin_high _

/-- Its low digit. -/
theorem k1_pay4_at (p : Fin 16) (q : Fin 9216) : k1_pay4 (F := Ideal) x w lo hi (ix2 p q)
    = (((bin (quo (x (ix3 0 p q) * w (ix2 p q)) (lo (ix3 0 0 0)) (hi (ix3 0 0 0))) % 16 : ℕ) : ℝ) : EReal) := by
  pointwise [k1_pay4, k1_pay3]
  rw [k1_pay2_at, bin_high]
  exact bin_low _

end

/-- The histogram a channel's body stores: entry `(p, r)` counts the positions of bin `16 p + r`. -/
theorem hist_at (x w lo hi) (s : Fin 384 → Fin 147456 → EReal) (c : Fin 384) (h : OnRows x w (s c)) (hlo : lo (ix3 0 0 0) = least (s c))
    (hhi : hi (ix3 0 0 0) = greatest (s c)) (p r : Fin 16) :
    histPay (k1_pay3 (F := Ideal) x w lo hi) (k1_pay4 (F := Ideal) x w lo hi) (ix3 0 p r) = ((occ (code s) c (16 * p.val + r.val) : ℝ) : EReal) := by
  have e : ∀ (a : Fin 16) (q : Fin 9216), bin (quo (x (ix3 0 a q) * w (ix2 a q)) (lo (ix3 0 0 0)) (hi (ix3 0 0 0)))
      = code s c ⟨a.val * 9216 + q.val, by omega⟩ := fun a q => by rw [h a q (by omega), hlo, hhi]; rfl
  refine (histPay_tally _ _ (fun a q => code s c ⟨a.val * 9216 + q.val, by omega⟩)
    (fun a q => by rw [k1_pay3_at, e]) (fun a q => by rw [k1_pay4_at, e]) p r).trans ?_
  refine congrArg (fun n : ℕ => ((n : ℝ) : EReal)) ?_
  unfold tally occ
  rw [Fin.sum_univ_tiles 16 9216 rfl]

end Cert.KernelIdeal.Value
end
-- ==== Proof.KCdf.lean ====
/-
  The running-sum body: on a table of counts whose rows sum to 147456 it stores the running sums of the rows.
-/
module

public import proofs.«01_k».proof.Proof.Blocks
public import proofs.«01_k».proof.Proof.Scalars
public import proofs.«01_k».proof.Proof.Math

@[expose] public section

set_option maxRecDepth 16384

noncomputable section

open Idealize.ShloMosaic Idealize.ShloMosaic.TcCoe Idealize.SL.Sem

namespace Cert.KernelIdeal.Value

open Cert.KernelIdeal Cert.KernelIdeal.Gen
open Cert.Proof.Scalars Cert.Proof.Math

/-- The counts scaled by 147456 over their row's sum. -/
def scaled (v1 : FVec Ideal S384x256 .f32) : FVec Ideal S384x256 .f32 :=
  divf (mulf (shapeCast S384x256 v1 shapeCasts_S384x256_S384x256) (broadcast S384x256 (Scalar.ofBits .f32 0x48100000#32)))
    (broadcastTo S384x256 (shapeCast S384x1 (multiReduction .add [1] S384 (shapeCast S384x256 v1 shapeCasts_S384x256_S384x256)
      0x00000000#32 reduces_S384x256_S384 (.inl rfl) rfl) shapeCasts_S384_S384x1) broadcasts_S384x1_S384x256)

/-- Counts that sum to 147456 along each row are their own scaled values. -/
theorem scaled_at (v : FVec Ideal S384x256 .f32) (h : Fin 384 → ℕ → ℕ)
    (hv : ∀ c k, v (ix2 c k) = ((h c k.val : ℝ) : EReal)) (hs : ∀ c, ∑ k ∈ Finset.range 256, h c k = 147456)
    (c : Fin 384) (k : Fin 256) : scaled v (ix2 c k) = ((window (h c) 1 k.val : ℝ) : EReal) := by
  pointwise [scaled]
  simp only [hv, lit_N, coe_sum]
  have e : (∑ x : Fin 256, (h c x.val : ℝ)) = 147456 := by
    rw [Fin.sum_univ_eq_sum_range (fun x => (h c x : ℝ)) 256]
    exact_mod_cast hs c
  rw [e, ← EReal.coe_mul, coe_div _ _ (by norm_num), window_one]
  congr 1
  ring

/-- A value plus the value `d` columns to the left (nothing in the first `d` columns): sums over `d` columns become sums over `2 d`. -/
theorem shift_step (v : FVec Ideal S384x256 .f32) (h : Fin 384 → ℕ → ℕ) (d : ℕ)
    (hv : ∀ c k, v (ix2 c k) = ((window (h c) d k.val : ℝ) : EReal)) (c : Fin 384) (k : Fin 256) (y : EReal)
    (hy : y = v (ix2 c k) + if hd : k.val < d then 0 else v (ix2 c ⟨k.val - d, by omega⟩)) :
    y = ((window (h c) (d + d) k.val : ℝ) : EReal) := by
  have hw := window_double (h c) d k.val
  rw [hy, hv, hw]
  by_cases h1 : k.val < d
  · rw [dif_pos h1, if_pos h1, add_zero, Nat.add_zero]
  · rw [dif_neg h1, if_neg h1, hv, Nat.cast_add, EReal.coe_add]

/-- The step that adds the value 1 column to the left. -/
def shift1 (v : FVec Ideal S384x256 .f32) : FVec Ideal S384x256 .f32 :=
  addf v (concatenate S384x256 1 [⟨S384x1, broadcast S384x1 (Scalar.ofBits .f32 0x00000000#32 : Ideal .f32)⟩,
    ⟨S384x255, extractStridedSlice S384x255 ![0, 0] v slices_S384x256_o0_0_S384x255⟩] concatenates_S384x1_S384x255_S384x256_d1)

/-- Sums over 1 column become sums over 2. -/
theorem shift1_at (v : FVec Ideal S384x256 .f32) (h : Fin 384 → ℕ → ℕ)
    (hv : ∀ c k, v (ix2 c k) = ((window (h c) 1 k.val : ℝ) : EReal)) (c : Fin 384) (k : Fin 256) :
    shift1 v (ix2 c k) = ((window (h c) 2 k.val : ℝ) : EReal) := by
  refine shift_step v h 1 hv c k _ ?_
  pointwise [shift1]

/-- The step that adds the value 2 columns to the left. -/
def shift2 (v : FVec Ideal S384x256 .f32) : FVec Ideal S384x256 .f32 :=
  addf v (concatenate S384x256 1 [⟨S384x2, broadcast S384x2 (Scalar.ofBits .f32 0x00000000#32 : Ideal .f32)⟩,
    ⟨S384x254, extractStridedSlice S384x254 ![0, 0] v slices_S384x256_o0_0_S384x254⟩] concatenates_S384x2_S384x254_S384x256_d1)

/-- Sums over 2 columns become sums over 4. -/
theorem shift2_at (v : FVec Ideal S384x256 .f32) (h : Fin 384 → ℕ → ℕ)
    (hv : ∀ c k, v (ix2 c k) = ((window (h c) 2 k.val : ℝ) : EReal)) (c : Fin 384) (k : Fin 256) :
    shift2 v (ix2 c k) = ((window (h c) 4 k.val : ℝ) : EReal) := by
  refine shift_step v h 2 hv c k _ ?_
  pointwise [shift2]

/-- The step that adds the value 4 columns to the left. -/
def shift4 (v : FVec Ideal S384x256 .f32) : FVec Ideal S384x256 .f32 :=
  addf v (concatenate S384x256 1 [⟨S384x4, broadcast S384x4 (Scalar.ofBits .f32 0x00000000#32 : Ideal .f32)⟩,
    ⟨S384x252, extractStridedSlice S384x252 ![0, 0] v slices_S384x256_o0_0_S384x252⟩] concatenates_S384x4_S384x252_S384x256_d1)

/-- Sums over 4 columns become sums over 8. -/
theorem shift4_at (v : FVec Ideal S384x256 .f32) (h : Fin 384 → ℕ → ℕ)
    (hv : ∀ c k, v (ix2 c k) = ((window (h c) 4 k.val : ℝ) : EReal)) (c : Fin 384) (k : Fin 256) :
    shift4 v (ix2 c k) = ((window (h c) 8 k.val : ℝ) : EReal) := by
  refine shift_step v h 4 hv c k _ ?_
  pointwise [shift4]

/-- The step that adds the value 8 columns to the left. -/
def shift8 (v : FVec Ideal S384x256 .f32) : FVec Ideal S384x256 .f32 :=
  addf v (concatenate S384x256 1 [⟨S384x8, broadcast S384x8 (Scalar.ofBits .f32 0x00000000#32 : Ideal .f32)⟩,
    ⟨S384x248, extractStridedSlice S384x248 ![0, 0] v slices_S384x256_o0_0_S384x248⟩] concatenates_S384x8_S384x248_S384x256_d1)

/-- Sums over 8 columns become sums over 16. -/
theorem shift8_at (v : FVec Ideal S384x256 .f32) (h : Fin 384 → ℕ → ℕ)
    (hv : ∀ c k, v (ix2 c k) = ((window (h c) 8 k.val : ℝ) : EReal)) (c : Fin 384) (k : Fin 256) :
    shift8 v (ix2 c k) = ((window (h c) 16 k.val : ℝ) : EReal) := by
  refine shift_step v h 8 hv c k _ ?_
  pointwise [shift8]

/-- The step that adds the value 16 columns to the left. -/
def shift16 (v : FVec Ideal S384x256 .f32) : FVec Ideal S384x256 .f32 :=
  addf v (concatenate S384x256 1 [⟨S384x16, broadcast S384x16 (Scalar.ofBits .f32 0x00000000#32 : Ideal .f32)⟩,
    ⟨S384x240, extractStridedSlice S384x240 ![0, 0] v slices_S384x256_o0_0_S384x240⟩] concatenates_S384x16_S384x240_S384x256_d1)

/-- Sums over 16 columns become sums over 32. -/
theorem shift16_at (v : FVec Ideal S384x256 .f32) (h : Fin 384 → ℕ → ℕ)
    (hv : ∀ c k, v (ix2 c k) = ((window (h c) 16 k.val : ℝ) : EReal)) (c : Fin 384) (k : Fin 256) :
    shift16 v (ix2 c k) = ((window (h c) 32 k.val : ℝ) : EReal) := by
  refine shift_step v h 16 hv c k _ ?_
  pointwise [shift16]

/-- The step that adds the value 32 columns to the left. -/
def shift32 (v : FVec Ideal S384x256 .f32) : FVec Ideal S384x256 .f32 :=
  addf v (concatenate S384x256 1 [⟨S384x32, broadcast S384x32 (Scalar.ofBits .f32 0x00000000#32 : Ideal .f32)⟩,
    ⟨S384x224, extractStridedSlice S384x224 ![0, 0] v slices_S384x256_o0_0_S384x224⟩] concatenates_S384x32_S384x224_S384x256_d1)

/-- Sums over 32 columns become sums over 64. -/
theorem shift32_at (v : FVec Ideal S384x256 .f32) (h : Fin 384 → ℕ → ℕ)
    (hv : ∀ c k, v (ix2 c k) = ((window (h c) 32 k.val : ℝ) : EReal)) (c : Fin 384) (k : Fin 256) :
    shift32 v (ix2 c k) = ((window (h c) 64 k.val : ℝ) : EReal) := by
  refine shift_step v h 32 hv c k _ ?_
  pointwise [shift32]

/-- The step that adds the value 64 columns to the left. -/
def shift64 (v : FVec Ideal S384x256 .f32) : FVec Ideal S384x256 .f32 :=
  addf v (concatenate S384x256 1 [⟨S384x64, broadcast S384x64 (Scalar.ofBits .f32 0x00000000#32 : Ideal .f32)⟩,
    ⟨S384x192, extractStridedSlice S384x192 ![0, 0] v slices_S384x256_o0_0_S384x192⟩] concatenates_S384x64_S384x192_S384x256_d1)

/-- Sums over 64 columns become sums over 128. -/
theorem shift64_at (v : FVec Ideal S384x256 .f32) (h : Fin 384 → ℕ → ℕ)
    (hv : ∀ c k, v (ix2 c k) = ((window (h c) 64 k.val : ℝ) : EReal)) (c : Fin 384) (k : Fin 256) :
    shift64 v (ix2 c k) = ((window (h c) 128 k.val : ℝ) : EReal) := by
  refine shift_step v h 64 hv c k _ ?_
  pointwise [shift64]

/-- The step that adds the value 128 columns to the left. -/
def shift128 (v : FVec Ideal S384x256 .f32) : FVec Ideal S384x256 .f32 :=
  addf v (concatenate S384x256 1 [⟨S384x128, broadcast S384x128 (Scalar.ofBits .f32 0x00000000#32 : Ideal .f32)⟩,
    ⟨S384x128, extractStridedSlice S384x128 ![0, 0] v slices_S384x256_o0_0_S384x128⟩] concatenates_S384x128_S384x128_S384x256_d1)

/-- Sums over 128 columns become sums over 256. -/
theorem shift128_at (v : FVec Ideal S384x256 .f32) (h : Fin 384 → ℕ → ℕ)
    (hv : ∀ c k, v (ix2 c k) = ((window (h c) 128 k.val : ℝ) : EReal)) (c : Fin 384) (k : Fin 256) :
    shift128 v (ix2 c k) = ((window (h c) 256 k.val : ℝ) : EReal) := by
  refine shift_step v h 128 hv c k _ ?_
  pointwise [shift128]

/-- The body's steps in order. -/
theorem k3_pay2_eq (v : FVec Ideal S384x256 .f32) : k3_pay2 v = shift128 (shift64 (shift32 (shift16 (shift8 (shift4 (shift2 (shift1 (scaled v)))))))) := rfl

/-- The last step leaves the running sums. -/
theorem k3_pay2_at (v : FVec Ideal S384x256 .f32) (h : Fin 384 → ℕ → ℕ)
    (hv : ∀ c k, v (ix2 c k) = ((h c k.val : ℝ) : EReal)) (hs : ∀ c, ∑ k ∈ Finset.range 256, h c k = 147456)
    (c : Fin 384) (k : Fin 256) : k3_pay2 (F := Ideal) v (ix2 c k) = ((window (h c) 256 k.val : ℝ) : EReal) := by
  rw [k3_pay2_eq]
  exact shift128_at _ h (shift64_at _ h (shift32_at _ h (shift16_at _ h (shift8_at _ h (shift4_at _ h (shift2_at _ h (shift1_at _ h (scaled_at v h hv hs)))))))) c k

/-- The running sums are whole numbers between 0 and 147456, so rounding down and clipping leaves them as they are. -/
theorem k3_pay3_at (v : FVec Ideal S384x256 .f32) (h : Fin 384 → ℕ → ℕ)
    (hv : ∀ c k, v (ix2 c k) = ((h c k.val : ℝ) : EReal)) (hs : ∀ c, ∑ k ∈ Finset.range 256, h c k = 147456)
    (c : Fin 384) (k : Fin 256) : k3_pay3 (F := Ideal) v (ix2 c k) = ((window (h c) 256 k.val : ℝ) : EReal) := by
  pointwise [k3_pay3]
  rw [k3_pay2_at v h hv hs, floor_coe, lit_N]
  have hle : window (h c) 256 k.val ≤ 147456 := by
    rw [window_all _ _ _ k.isLt, ← hs c]
    exact Finset.sum_le_sum_of_subset (Finset.range_mono (by have := k.isLt; omega))
  have hf : ((⌊((window (h c) 256 k.val : ℕ) : ℝ)⌋ : ℤ) : ℝ) = ((window (h c) 256 k.val : ℕ) : ℝ) := by
    rw [Int.floor_natCast, Int.cast_natCast]
  rw [hf]
  have e0 : max (0 : EReal) (((window (h c) 256 k.val : ℕ) : ℝ) : EReal) = (((window (h c) 256 k.val : ℕ) : ℝ) : EReal) :=
    max_eq_right (by exact_mod_cast Nat.zero_le _)
  rw [e0]
  exact min_eq_right (by exact_mod_cast hle)

end Cert.KernelIdeal.Value
end
-- ==== Proof.KTable.lean ====
/-
  The table body: from the running sums of the first channel it stores the reading table.
-/
module

public import proofs.«01_k».proof.Proof.Blocks
public import proofs.«01_k».proof.Proof.Scalars
public import proofs.«01_k».proof.Proof.Table

@[expose] public section

set_option maxRecDepth 16384

noncomputable section

open Idealize.ShloMosaic Idealize.ShloMosaic.TcCoe Idealize.SL.Sem

namespace Cert.KernelIdeal.Value

open Cert.KernelIdeal Cert.KernelIdeal.Gen
open Cert.Proof.Scalars Cert.Proof.Math

/-- The index part: the number of running sums at most `k`. -/
theorem k3_pay6_at (v : FVec Ideal S384x256 .f32) (H : ℕ → ℕ) (hv : ∀ x : Fin 256, v (ix2 0 x) = ((H x.val : ℝ) : EReal))
    (k : Fin 512) : k3_pay6 v (ix2 k 0) = ((idx H k.val : ℝ) : EReal) := by
  pointwise [k3_pay6, k3_pay5, k3_pay4, ind]
  have hk : (FloatOps.sitofp .f32 (BitVec.ofNat 32 k.val) : Ideal .f32) = ((k.val : ℝ) : EReal) := ofNat_float _ (by omega)
  have e : ∀ x : Fin 256, (v (ix2 0 x) < (FloatOps.sitofp .f32 (BitVec.ofNat 32 k.val) : Ideal .f32) + 1) ↔ H x.val < k.val + 1 := by
    intro x
    rw [hv, hk, ← EReal.coe_one, ← EReal.coe_add, EReal.coe_lt_coe_iff]
    exact_mod_cast Iff.rfl
  simp only [e]
  rw [coe_sum, ← idx_count]
  congr 1
  push_cast
  rfl

/-- The fraction part, when the index lies inside the table. -/
theorem k3_pay7_at (v : FVec Ideal S384x256 .f32) (H : ℕ → ℕ) (hv : ∀ x : Fin 256, v (ix2 0 x) = ((H x.val : ℝ) : EReal))
    (k : Fin 512) (hk : idx H k.val < 256) : k3_pay7 v (ix2 k 0) = ((frac H k.val : ℝ) : EReal) := by
  pointwise [k3_pay7, k3_pay5, k3_pay4, ind]
  have hf : ∀ n : ℕ, n < 512 → (FloatOps.sitofp .f32 (BitVec.ofNat 32 n) : Ideal .f32) = ((n : ℝ) : EReal) :=
    fun n hn => ofNat_float n (by omega)
  have hi : ∀ n : ℕ, n < 512 → ((k3_pay6 v (ix2 k 0) = (FloatOps.sitofp .f32 (BitVec.ofNat 32 n) : Ideal .f32)) ↔ idx H k.val = n) := by
    intro n hn
    rw [k3_pay6_at v H hv, hf n hn, EReal.coe_eq_coe_iff, Nat.cast_inj]
  rw [← frac_coe, ← eps_lit]
  congr 3
  · congr 1
    · rw [hf _ (by omega), EReal.coe_add, EReal.coe_one]
    · simp only [mul_zero, Finset.sum_const_zero, zero_add, add_zero]
      rw [Finset.sum_congr rfl fun x _ => by rw [if_congr (hi (1 + x.val) (by omega)) rfl rfl]]
      rw [pick 255 1 (idx H k.val) (fun x => v (ix2 0 ⟨x.val, by omega⟩))]
      rw [prev]
      split_ifs with h1 h2 h3
      · omega
      · rw [hv]
      · simp
      · omega
  · rw [Finset.sum_congr rfl fun x _ => by rw [if_congr ((hi x.val (by omega)).trans (by rw [Nat.zero_add] : (idx H k.val = x.val) ↔ idx H k.val = 0 + x.val)) rfl rfl]]
    rw [pick 512 0 (idx H k.val) (fun x => if h : x.val < 256 then v (ix2 0 ⟨x.val, by omega⟩)
      else if h : x.val - 256 < 1 then v (ix2 1 ⟨x.val - 256, by omega⟩) else 0)]
    have h0 : 0 ≤ idx H k.val ∧ idx H k.val - 0 < 512 := by omega
    rw [dif_pos h0]
    simp only [Nat.sub_zero, hk, dite_true, hv]

/-- The stored table entry. -/
theorem k3_pay1_at (a b : FVec Ideal S512x1 .f32) (c d : FVec Ideal S1x1x1 .f32) (H : ℕ → ℕ) (lo hi : ℝ) (k : Fin 512)
    (ha : a (ix2 k 0) = ((idx H k.val : ℝ) : EReal)) (hb : b (ix2 k 0) = ((frac H k.val : ℝ) : EReal))
    (hc : c (ix3 0 0 0) = (lo : EReal)) (hd : d (ix3 0 0 0) = (hi : EReal)) :
    k3_pay1 a b c d (ix2 k 0) = ((table lo ((hi - lo) / 256) H k.val : ℝ) : EReal) := by
  pointwise [k3_pay1]
  rw [ha, hb, hc, hd]
  exact table_coe lo hi H k.val

end Cert.KernelIdeal.Value
end
-- ==== Proof.KLoss.lean ====
/-
  The loss body: of a channel whose masked values are the real numbers `f j`, with running sums `H` and the reading table `g`,
  the stored value is the channel's sum of squared distances between the table read at each position's index and `f`.
-/
module

public import proofs.«01_k».proof.Proof.Blocks
public import proofs.«01_k».proof.Proof.Scalars
public import proofs.«01_k».proof.Proof.Table

@[expose] public section

set_option maxRecDepth 16384

noncomputable section

open Idealize.ShloMosaic Idealize.ShloMosaic.TcCoe Idealize.SL.Sem

namespace Cert.KernelIdeal.Value

open Cert.KernelIdeal Cert.KernelIdeal.Gen
open Cert.Proof.Scalars Cert.Proof.Math

/-- The masked values as products of the block and the mask. -/
def Reads (x : FVec Ideal S1x1152x128 .f32) (w : FVec Ideal S1152x128 .f32) (f : ℕ → ℝ) : Prop :=
  ∀ (q : Fin 1152) (r : Fin 128), (x (ix3 0 q r) : EReal) * w (ix2 q r) = ((f (128 * q.val + r.val) : ℝ) : EReal)

/-- A sum over the block's rows and columns is a sum over all positions in order. -/
theorem sum_block (F : ℕ → ℝ) : ∑ q : Fin 1152, ∑ r : Fin 128, F (128 * q.val + r.val) = ∑ j : Fin 147456, F j.val := by
  rw [Fin.sum_univ_tiles 1152 128 rfl (fun j : Fin 147456 => F j.val)]
  exact Finset.sum_congr rfl fun q _ => Finset.sum_congr rfl fun r _ => by rw [Nat.mul_comm]

/-- The sum of the squared masked values. -/
theorem k4_pay4_at (x : FVec Ideal S1x1152x128 .f32) (w : FVec Ideal S1152x128 .f32) (f : ℕ → ℝ) (hf : Reads x w f) :
    k4_pay4 (F := Ideal) x w = ((∑ j : Fin 147456, f j.val * f j.val : ℝ) : EReal) := by
  pointwise [k4_pay4, k4_pay1]
  rw [← sum_block (fun j => f j * f j), ← coe_sum]
  refine Finset.sum_congr rfl fun q _ => ?_
  rw [← coe_sum]
  refine Finset.sum_congr rfl fun r _ => ?_
  rw [hf q r, ← EReal.coe_mul]

/-- The sum of the masked values. -/
theorem k4_pay6_at (x : FVec Ideal S1x1152x128 .f32) (w : FVec Ideal S1152x128 .f32) (f : ℕ → ℝ) (hf : Reads x w f) :
    k4_pay6 (F := Ideal) x w = ((∑ j : Fin 147456, f j.val : ℝ) : EReal) := by
  pointwise [k4_pay6, k4_pay5, k4_pay1]
  rw [← sum_block (fun j => f j), ← coe_sum]
  refine Finset.sum_congr rfl fun q _ => ?_
  rw [Fin.sum_univ_one, ← coe_sum]
  exact Finset.sum_congr rfl fun r _ => hf q r

/-- The row that holds position `n`: the floor of a 128th of it. -/
theorem row_of (n : ℕ) : Ideal.liftRound Int.floor (((n : ℝ) : EReal) * Ideal.ofBits .f32 0x3C000000#32) = (((n / 128 : ℕ) : ℝ) : EReal) := by
  rw [lit_128th, ← EReal.coe_mul, floor_coe]
  congr 1
  have h : ⌊(n : ℝ) * (1 / 128)⌋ = ((n / 128 : ℕ) : ℤ) := by
    rw [Int.floor_eq_iff]
    have h1 := Nat.div_add_mod n 128
    have h2 := Nat.mod_lt n (show 128 > 0 by norm_num)
    have h3 : (n : ℝ) = 128 * ((n / 128 : ℕ) : ℝ) + ((n % 128 : ℕ) : ℝ) := by exact_mod_cast h1.symm
    have h4 : ((n % 128 : ℕ) : ℝ) < 128 := by exact_mod_cast h2
    have h5 : (0 : ℝ) ≤ ((n % 128 : ℕ) : ℝ) := Nat.cast_nonneg _
    constructor <;> rw [Int.cast_natCast] <;> linarith
  rw [h, Int.cast_natCast]

/-- The column that holds position `n` in its row. -/
theorem column_of (n : ℕ) : ((n : ℝ) : EReal) - (((n / 128 : ℕ) : ℝ) : EReal) * Ideal.ofBits .f32 0x43000000#32 = (((n % 128 : ℕ) : ℝ) : EReal) := by
  rw [lit_128, ← EReal.coe_mul, ← EReal.coe_sub]
  congr 1
  have := Nat.div_add_mod n 128
  have h : (n : ℝ) = 128 * ((n / 128 : ℕ) : ℝ) + ((n % 128 : ℕ) : ℝ) := by exact_mod_cast this.symm
  linarith

/-- The sum of the whole rows before the row of `H k`. -/
theorem k4_pay9_at (x : FVec Ideal S1x1152x128 .f32) (w : FVec Ideal S1152x128 .f32) (e : FVec Ideal S1x256x1 .f32) (f : ℕ → ℝ)
    (H : ℕ → ℕ) (hf : Reads x w f) (he : ∀ k : Fin 256, e (ix3 0 k 0) = ((H k.val : ℝ) : EReal)) (k : Fin 256) :
    k4_pay9 (F := Ideal) x w e (ix2 k 0)
      = ((∑ q ∈ Finset.range 1152, (if q < H k.val / 128 then (∑ r ∈ Finset.range 128, f (128 * q + r)) else 0) : ℝ) : EReal) := by
  pointwise [k4_pay9, k4_pay5, k4_pay1, k4_pay7, k4_pay8, k4_pay2]
  rw [← Fin.sum_univ_eq_sum_range (fun q => if q < H k.val / 128 then (∑ r ∈ Finset.range 128, f (128 * q + r)) else 0) 1152, ← coe_sum]
  refine Finset.sum_congr rfl fun q _ => ?_
  have hr : (∑ r : Fin 128, (x (ix3 0 q r) : EReal) * w (ix2 q r)) = ((∑ r ∈ Finset.range 128, f (128 * q.val + r) : ℝ) : EReal) := by
    rw [← Fin.sum_univ_eq_sum_range (fun r => f (128 * q.val + r)) 128, ← coe_sum]
    exact Finset.sum_congr rfl fun r _ => hf q r
  rw [ind, he, row_of, hr, ofNat_float q.val (by omega), ← EReal.coe_mul]
  congr 1
  have hlt : ((((q.val : ℕ) : ℝ) : EReal) < (((H k.val / 128 : ℕ) : ℝ) : EReal)) ↔ q.val < H k.val / 128 := by
    rw [EReal.coe_lt_coe_iff, Nat.cast_lt]
  by_cases h : q.val < H k.val / 128
  · rw [if_pos (hlt.2 h), if_pos h, one_mul]
  · rw [if_neg (fun a => h (hlt.1 a)), if_neg h, zero_mul]

/-- The row of `H k`, column by column. -/
theorem k4_pay10_at (x : FVec Ideal S1x1152x128 .f32) (w : FVec Ideal S1152x128 .f32) (e : FVec Ideal S1x256x1 .f32) (f : ℕ → ℝ)
    (H : ℕ → ℕ) (hf : Reads x w f) (he : ∀ k : Fin 256, e (ix3 0 k 0) = ((H k.val : ℝ) : EReal)) (k : Fin 256) (r : Fin 128) :
    k4_pay10 (F := Ideal) x w e (ix2 k r)
      = ((∑ q ∈ Finset.range 1152, (if q = H k.val / 128 then f (128 * q + r.val) else 0) : ℝ) : EReal) := by
  pointwise [k4_pay10, k4_pay5, k4_pay1, k4_pay7, k4_pay8, k4_pay2]
  rw [← Fin.sum_univ_eq_sum_range (fun q => if q = H k.val / 128 then f (128 * q + r.val) else 0) 1152, ← coe_sum]
  refine Finset.sum_congr rfl fun q _ => ?_
  rw [ind, he, row_of, hf q r, ofNat_float q.val (by omega), ← EReal.coe_mul]
  congr 1
  have heq : ((((q.val : ℕ) : ℝ) : EReal) = (((H k.val / 128 : ℕ) : ℝ) : EReal)) ↔ q.val = H k.val / 128 := by
    rw [EReal.coe_eq_coe_iff, Nat.cast_inj]
  by_cases h : q.val = H k.val / 128
  · rw [if_pos (heq.2 h), if_pos h, one_mul]
  · rw [if_neg (fun a => h (heq.1 a)), if_neg h, zero_mul]

/-- The columns of that row before position `H k`. -/
theorem k4_pay11_at (e : FVec Ideal S1x256x1 .f32) (H : ℕ → ℕ) (he : ∀ k : Fin 256, e (ix3 0 k 0) = ((H k.val : ℝ) : EReal))
    (k : Fin 256) (r : Fin 128) : k4_pay11 (F := Ideal) e (ix2 k r) = BitVec.ofBool (decide (r.val < H k.val % 128)) := by
  pointwise [k4_pay11, k4_pay7, k4_pay2]
  rw [he, row_of, column_of, ofNat_float r.val (by omega)]
  congr 1
  rw [decide_eq_decide, EReal.coe_lt_coe_iff, Nat.cast_lt]

/-- The sum of the masked values before position `H k`, from its two parts. -/
theorem below_at (x : FVec Ideal S1x1152x128 .f32) (w : FVec Ideal S1152x128 .f32) (e : FVec Ideal S1x256x1 .f32) (f : ℕ → ℝ)
    (H : ℕ → ℕ) (hf : Reads x w f) (he : ∀ k : Fin 256, e (ix3 0 k 0) = ((H k.val : ℝ) : EReal)) (k : Fin 256) (hH : H k.val ≤ 147456) :
    k4_pay9 (F := Ideal) x w e (ix2 k 0) + ∑ r : Fin 128, (k4_pay10 (F := Ideal) x w e (ix2 k r) : EReal)
        * (FloatOps.sitofp .f32 (BitVec.setWidth 32 (k4_pay11 (F := Ideal) e (ix2 k r))) : Ideal .f32)
      = ((∑ j : Fin 147456, (if j.val < H k.val then f j.val else 0) : ℝ) : EReal) := by
  have hr : (∑ r : Fin 128, (k4_pay10 (F := Ideal) x w e (ix2 k r) : EReal)
        * (FloatOps.sitofp .f32 (BitVec.setWidth 32 (k4_pay11 (F := Ideal) e (ix2 k r))) : Ideal .f32))
      = ((∑ r ∈ Finset.range 128, (∑ q ∈ Finset.range 1152, if q = H k.val / 128 then f (128 * q + r) else 0)
          * (if r < H k.val % 128 then 1 else 0) : ℝ) : EReal) := by
    rw [← Fin.sum_univ_eq_sum_range (fun r => (∑ q ∈ Finset.range 1152, if q = H k.val / 128 then f (128 * q + r) else 0)
          * (if r < H k.val % 128 then 1 else 0)) 128, ← coe_sum]
    refine Finset.sum_congr rfl fun r _ => ?_
    rw [k4_pay10_at x w e f H hf he, k4_pay11_at e H he, ind, ← EReal.coe_mul]
  rw [hr, k4_pay9_at x w e f H hf he, ← EReal.coe_add, prefix_split (R := 1152) f (H k.val) hH,
    Fin.sum_univ_eq_sum_range (fun j => if j < H k.val then f j else 0) 147456]

/-- The weights of the squared table entries: the number of positions with each index. -/
theorem weights (g : ℕ → ℝ) (H : ℕ → ℕ) : ∑ k ∈ Finset.range 256, g k * g k * ((H k : ℝ) - if k = 0 then 0 else (H (k - 1) : ℝ))
    = g 0 * g 0 * (H 0 : ℝ) + ∑ k ∈ Finset.range 255, g (1 + k) * g (1 + k) * ((H (1 + k) : ℝ) - (H k : ℝ)) := by
  rw [Finset.sum_range_succ', add_comm]
  refine congrArg₂ _ (by simp) ?_
  · refine Finset.sum_congr rfl fun k _ => ?_
    rw [if_neg (by omega), Nat.add_comm k 1, Nat.add_sub_cancel_left]

/-- The body's stored value is the channel's sum of squared distances. -/
theorem lossPay_at (x : FVec Ideal S1x1152x128 .f32) (w : FVec Ideal S1152x128 .f32) (e : FVec Ideal S1x256x1 .f32)
    (ct : FVec Ideal S512x1 .f32) (f : ℕ → ℝ) (H : ℕ → ℕ) (g : ℕ → ℝ) (hf : Reads x w f)
    (he : ∀ k : Fin 256, e (ix3 0 k 0) = ((H k.val : ℝ) : EReal))
    (hg : ∀ k : Fin 512, k.val ≤ 256 → ct (ix2 k 0) = ((g k.val : ℝ) : EReal))
    (hH : ∀ a b, a ≤ b → b < 256 → H a ≤ H b) (hN : H 255 = 147456) :
    lossPay x w e ct (ix3 0 0 0)
      = ((∑ j : Fin 147456, (g (idx H j.val) - f j.val) * (g (idx H j.val) - f j.val) : ℝ) : EReal) := by
  have hb : ∀ k : Fin 256, H k.val ≤ 147456 := fun k => hN ▸ hH k.val 255 (by omega) (by omega)
  rw [channel H hH hN g (fun j => f j.val), weights]
  pointwise [lossPay, k4_pay12]
  rw [k4_pay4_at x w f hf, k4_pay6_at x w f hf]
  simp only [Fin.sum_univ_one, below_at x w e f H hf he _ (hb _)]
  have e2 : ∀ k : Fin 256, (k4_pay2 (F := Ideal) e (ix2 k 0) : EReal) = ((H k.val : ℝ) : EReal) := by
    intro k
    pointwise [k4_pay2]
    exact he k
  have e3 : ∀ k : Fin 512, k.val ≤ 256 → (k4_pay3 (F := Ideal) ct (ix2 k 0) : EReal) = ((g k.val : ℝ) : EReal) := by
    intro k hk
    pointwise [k4_pay3]
    exact hg k hk
  have s1 : (∑ k : Fin 255, k4_pay3 (F := Ideal) ct (ix2 ⟨1 + k.val, by omega⟩ 0) * k4_pay3 (F := Ideal) ct (ix2 ⟨1 + k.val, by omega⟩ 0)
        * (k4_pay2 (F := Ideal) e (ix2 ⟨1 + k.val, by omega⟩ 0) - k4_pay2 (F := Ideal) e (ix2 ⟨k.val, by omega⟩ 0)) : EReal)
      = ((∑ k ∈ Finset.range 255, g (1 + k) * g (1 + k) * ((H (1 + k) : ℝ) - (H k : ℝ)) : ℝ) : EReal) := by
    rw [← Fin.sum_univ_eq_sum_range (fun k => g (1 + k) * g (1 + k) * ((H (1 + k) : ℝ) - (H k : ℝ))) 255, ← coe_sum]
    refine Finset.sum_congr rfl fun k _ => ?_
    rw [e3 ⟨1 + k.val, by omega⟩ (by simp only; omega), e2, e2, ← EReal.coe_mul, ← EReal.coe_sub, ← EReal.coe_mul]
  have s2 : (∑ k : Fin 256, ((∑ j : Fin 147456, (if j.val < H k.val then f j.val else 0) : ℝ) : EReal)
        * (k4_pay3 (F := Ideal) ct (ix2 ⟨k.val, by omega⟩ 0) - k4_pay3 (F := Ideal) ct (ix2 ⟨1 + k.val, by omega⟩ 0)) : EReal)
      = ((∑ k ∈ Finset.range 256, (∑ j : Fin 147456, if j.val < H k then f j.val else 0) * (g k - g (k + 1)) : ℝ) : EReal) := by
    rw [← Fin.sum_univ_eq_sum_range (fun k => (∑ j : Fin 147456, if j.val < H k then f j.val else 0) * (g k - g (k + 1))) 256, ← coe_sum]
    refine Finset.sum_congr rfl fun k _ => ?_
    rw [e3 ⟨1 + k.val, by omega⟩ (by simp only; omega), e3 ⟨k.val, by omega⟩ (by simp only; omega), ← EReal.coe_sub, ← EReal.coe_mul]
    simp only [Nat.add_comm 1 k.val]
  have e30 : (k4_pay3 (F := Ideal) ct (ix2 0 0) : EReal) = ((g 0 : ℝ) : EReal) := e3 0 (by decide)
  have e3t : (k4_pay3 (F := Ideal) ct (ix2 256 0) : EReal) = ((g 256 : ℝ) : EReal) := e3 256 (by decide)
  have e20 : (k4_pay2 (F := Ideal) e (ix2 0 0) : EReal) = ((H 0 : ℝ) : EReal) := e2 0
  have e2t : (k4_pay2 (F := Ideal) e (ix2 255 0) : EReal) = ((H 255 : ℝ) : EReal) := e2 255
  rw [s1, s2, e30, e3t, e20, e2t, lit_N, lit_2]
  simp only [← EReal.coe_mul, ← EReal.coe_sub, ← EReal.coe_add, Nat.cast_ofNat]

end Cert.KernelIdeal.Value
end
-- ==== Proof.Arr0.lean ====
/-
  What region 0 leaves in its output arrays, as one function of the arrays it finds: at channel `c`, the extrema of the channel's masked style.
-/
module

public import proofs.«01_k».proof.Proof.Gen.KernelIdeal.Frame
public import proofs.«01_k».proof.Proof.Blocks
public import Idealize.ShloMosaic.Lib.Pointwise
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- Region 0's index maps. -/
theorem idx0 : ∀ t : Fin cfg0.N, win0_0.index t = ![t.val, 0, 0] ∧ win0_1.index t = ![0, 0] ∧ win0_2.index t = ![t.val, 0, 0]
    ∧ win0_3.index t = ![t.val, 0, 0] :=
  (by decide +kernel : ∀ t : Fin grid0.N, _)

theorem iblk0_0 (c : Dev nD) (t : Fin cfg0.N) : (iblk0 V c 0 t : FVec Ideal S1x16x9216 .f32) = blkA (V c main_v0) t := by
  funext y
  unfold blkA
  blk_ext [iblk0, idx0 t]

theorem iblk0_1 (c : Dev nD) (t : Fin cfg0.N) : (iblk0 V c 1 t : FVec Ideal S16x9216 .f32) = V c main_v1 := by
  funext y
  blk_ext [iblk0, idx0 t]

/-- The minima region 0 writes. -/
theorem arr0_2 (c : Dev nD) : (dat0 V c).arrAt 2 cfg0.N
    = ((fun i => k0_pay2 (F := Ideal) (blkA (V c main_v0) (i 0)) (V c main_v1) (ix3 0 0 0)) : FVec Ideal S384x1x1 .f32) := by
  refine (dat0 V c).arrAt_eq_of_covers 2 _ (by decide +kernel) fun t _ y => ?_
  blk_simp
  rw [after0_2]
  frame_out
  rw [iblk0_0, iblk0_1]
  have hc : (((View.whole main_v2_0).slice (win0_2.rect t)).emb y 0 : Fin 384) = t := by
    apply Fin.ext
    blk_simp [idx0 t]
  rw [hc, one3 y]

/-- The maxima region 0 writes. -/
theorem arr0_3 (c : Dev nD) : (dat0 V c).arrAt 3 cfg0.N
    = ((fun i => k0_pay3 (F := Ideal) (blkA (V c main_v0) (i 0)) (V c main_v1) (ix3 0 0 0)) : FVec Ideal S384x1x1 .f32) := by
  refine (dat0 V c).arrAt_eq_of_covers 3 _ (by decide +kernel) fun t _ y => ?_
  blk_simp
  rw [after0_3]
  frame_out
  rw [iblk0_0, iblk0_1]
  have hc : (((View.whole main_v2_1).slice (win0_3.rect t)).emb y 0 : Fin 384) = t := by
    apply Fin.ext
    blk_simp [idx0 t]
  rw [hc, one3 y]

end Cert.KernelIdeal.Value

end
-- ==== Proof.Arr1.lean ====
/-
  What region 1 leaves in its output arrays, as one function of the arrays it finds: at channel `c`, the histogram of the channel's bins.
-/
module

public import proofs.«01_k».proof.Proof.Gen.KernelIdeal.Frame
public import proofs.«01_k».proof.Proof.Blocks
public import Idealize.ShloMosaic.Lib.Pointwise
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-! ## Region 1: the histograms -/

/-- Region 1's index maps. -/
theorem idx1 : ∀ t : Fin cfg1.N, win1_0.index t = ![t.val, 0, 0] ∧ win1_1.index t = ![0, 0] ∧ win1_2.index t = ![t.val, 0, 0]
    ∧ win1_3.index t = ![t.val, 0, 0] ∧ win1_4.index t = ![t.val, 0, 0] :=
  (by decide +kernel : ∀ t : Fin grid1.N, _)

theorem iblk1_0 (c : Dev nD) (t : Fin cfg1.N) : (iblk1 V c 0 t : FVec Ideal S1x16x9216 .f32) = blkA (V c main_v0) t := by
  funext y
  unfold blkA
  blk_ext [iblk1, idx1 t]

theorem iblk1_1 (c : Dev nD) (t : Fin cfg1.N) : (iblk1 V c 1 t : FVec Ideal S16x9216 .f32) = V c main_v1 := by
  funext y
  blk_ext [iblk1, idx1 t]

theorem iblk1_2 (c : Dev nD) (t : Fin cfg1.N) : (iblk1 V c 2 t : FVec Ideal S1x1x1 .f32) = blkOne (V c main_v2_0) t := by
  funext y
  unfold blkOne
  blk_ext [iblk1, idx1 t]

theorem iblk1_3 (c : Dev nD) (t : Fin cfg1.N) : (iblk1 V c 3 t : FVec Ideal S1x1x1 .f32) = blkOne (V c main_v2_1) t := by
  funext y
  unfold blkOne
  blk_ext [iblk1, idx1 t]

/-- The histograms region 1 writes. -/
theorem arr1_4 (c : Dev nD) : (dat1 V c).arrAt 4 cfg1.N
    = ((fun i => histPay
        (k1_pay3 (F := Ideal) (blkA (V c main_v0) (i 0)) (V c main_v1) (blkOne (V c main_v2_0) (i 0)) (blkOne (V c main_v2_1) (i 0)))
        (k1_pay4 (F := Ideal) (blkA (V c main_v0) (i 0)) (V c main_v1) (blkOne (V c main_v2_0) (i 0)) (blkOne (V c main_v2_1) (i 0)))
        (ix3 0 (i 1) (i 2))) : FVec Ideal S384x16x16 .f32) := by
  refine (dat1 V c).arrAt_eq_of_covers 4 _ (by decide +kernel) fun t _ y => ?_
  blk_simp
  rw [after1_4]
  unfold_out out1_4
  frame_out
  rw [iblk1_0, iblk1_1, iblk1_2, iblk1_3]
  have hc : (((View.whole main_v3).slice (win1_4.rect t)).emb y 0 : Fin 384) = t := by
    apply Fin.ext
    blk_simp [idx1 t]
  rw [hc]
  have hy : (y : S1x16x16.Idx) = ix3 0 (((View.whole main_v3).slice (win1_4.rect t)).emb y 1)
      (((View.whole main_v3).slice (win1_4.rect t)).emb y 2) := by
    blk_ext [idx1 t]
  exact congrArg (histPay
      (k1_pay3 (F := Ideal) (blkA (V c main_v0) t) (V c main_v1) (blkOne (V c main_v2_0) t) (blkOne (V c main_v2_1) t))
      (k1_pay4 (F := Ideal) (blkA (V c main_v0) t) (V c main_v1) (blkOne (V c main_v2_0) t) (blkOne (V c main_v2_1) t))) hy

end Cert.KernelIdeal.Value

end
-- ==== Proof.Arr2.lean ====
/-
  What region 2 leaves in its output arrays, as one function of the arrays it finds: the extrema of channel 0's masked input.
-/
module

public import proofs.«01_k».proof.Proof.Gen.KernelIdeal.Frame
public import proofs.«01_k».proof.Proof.Blocks
public import Idealize.ShloMosaic.Lib.Pointwise
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- Region 2's index maps. -/
theorem idx2 : ∀ t : Fin cfg2.N, win2_0.index t = ![0, 0, 0] ∧ win2_1.index t = ![0, 0] ∧ win2_2.index t = ![0, 0, 0]
    ∧ win2_3.index t = ![0, 0, 0] :=
  (by decide +kernel : ∀ t : Fin grid2.N, _)

theorem iblk2_0 (c : Dev nD) (t : Fin cfg2.N) : (iblk2 V c 0 t : FVec Ideal S1x1152x128 .f32) = blkB (V c main_v5) 0 := by
  funext y
  unfold blkB
  blk_ext [iblk2, idx2 t]

theorem iblk2_1 (c : Dev nD) (t : Fin cfg2.N) : (iblk2 V c 1 t : FVec Ideal S1152x128 .f32) = V c main_v6 := by
  funext y
  blk_ext [iblk2, idx2 t]

/-- The minimum region 2 writes. -/
theorem arr2_2 (c : Dev nD) : (dat2 V c).arrAt 2 cfg2.N
    = (k2_pay2 (F := Ideal) (blkB (V c main_v5) 0) (V c main_v6) : FVec Ideal S1x1x1 .f32) := by
  refine (dat2 V c).arrAt_eq_of_covers 2 _ (by decide +kernel) fun t _ y => ?_
  blk_simp
  rw [after2_2]
  frame_out
  rw [iblk2_0, iblk2_1]
  rw [one3 y, one3 (((View.whole main_v7_0).slice (win2_2.rect t)).emb _)]

/-- The maximum region 2 writes. -/
theorem arr2_3 (c : Dev nD) : (dat2 V c).arrAt 3 cfg2.N
    = (k2_pay3 (F := Ideal) (blkB (V c main_v5) 0) (V c main_v6) : FVec Ideal S1x1x1 .f32) := by
  refine (dat2 V c).arrAt_eq_of_covers 3 _ (by decide +kernel) fun t _ y => ?_
  blk_simp
  rw [after2_3]
  frame_out
  rw [iblk2_0, iblk2_1]
  rw [one3 y, one3 (((View.whole main_v7_1).slice (win2_3.rect t)).emb _)]

end Cert.KernelIdeal.Value

end
-- ==== Proof.Arr3.lean ====
/-
  What region 3 leaves in its output arrays, as one function of the arrays it finds: the running counts of every channel, and the table of remapped values.
-/
module

public import proofs.«01_k».proof.Proof.Gen.KernelIdeal.Frame
public import proofs.«01_k».proof.Proof.Blocks
public import Idealize.ShloMosaic.Lib.Pointwise
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- Region 3's index maps. -/
theorem idx3 : ∀ t : Fin cfg3.N, win3_0.index t = ![0, 0] ∧ win3_1.index t = ![0, 0, 0] ∧ win3_2.index t = ![0, 0, 0]
    ∧ win3_3.index t = ![0, 0] ∧ win3_4.index t = ![0, 0] :=
  (by decide +kernel : ∀ t : Fin grid3.N, _)

theorem iblk3_0 (c : Dev nD) (t : Fin cfg3.N) : (iblk3 V c 0 t : FVec Ideal S384x256 .f32) = V c main_v4 := by
  funext y
  blk_ext [iblk3, idx3 t]

theorem iblk3_1 (c : Dev nD) (t : Fin cfg3.N) : (iblk3 V c 1 t : FVec Ideal S1x1x1 .f32) = V c main_v7_0 := by
  funext y
  blk_ext [iblk3, idx3 t]

theorem iblk3_2 (c : Dev nD) (t : Fin cfg3.N) : (iblk3 V c 2 t : FVec Ideal S1x1x1 .f32) = V c main_v7_1 := by
  funext y
  blk_ext [iblk3, idx3 t]

/-- The running counts region 3 writes. -/
theorem arr3_3 (c : Dev nD) : (dat3 V c).arrAt 3 cfg3.N
    = (k3_pay3 (F := Ideal) (V c main_v4) : FVec Ideal S384x256 .f32) := by
  refine (dat3 V c).arrAt_eq_of_covers 3 _ (by decide +kernel) fun t _ y => ?_
  blk_simp
  rw [after3_3]
  frame_out
  rw [iblk3_0]
  blk_ext [idx3 t]

/-- The table region 3 writes. -/
theorem arr3_4 (c : Dev nD) : (dat3 V c).arrAt 4 cfg3.N
    = (k3_pay1 (F := Ideal) (k3_pay6 (k3_pay2 (V c main_v4))) (k3_pay7 (k3_pay2 (V c main_v4))) (V c main_v7_0) (V c main_v7_1)
        : FVec Ideal S512x1 .f32) := by
  refine (dat3 V c).arrAt_eq_of_covers 4 _ (by decide +kernel) fun t _ y => ?_
  blk_simp
  rw [after3_4]
  unfold_out out3_4
  frame_out
  rw [iblk3_0, iblk3_1, iblk3_2]
  blk_ext [idx3 t]

end Cert.KernelIdeal.Value

end
-- ==== Proof.Arr4.lean ====
/-
  What region 4 leaves in its output arrays, as one function of the arrays it finds: at channel `c`, the channel's sum of squared distances.
-/
module

public import proofs.«01_k».proof.Proof.Gen.KernelIdeal.Frame
public import proofs.«01_k».proof.Proof.Blocks
public import Idealize.ShloMosaic.Lib.Pointwise
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- Region 4's index maps. -/
theorem idx4 : ∀ t : Fin cfg4.N, win4_0.index t = ![t.val, 0, 0] ∧ win4_1.index t = ![0, 0] ∧ win4_2.index t = ![t.val, 0, 0]
    ∧ win4_3.index t = ![0, 0] ∧ win4_4.index t = ![t.val, 0, 0] :=
  (by decide +kernel : ∀ t : Fin grid4.N, _)

theorem iblk4_0 (c : Dev nD) (t : Fin cfg4.N) : (iblk4 V c 0 t : FVec Ideal S1x1152x128 .f32) = blkB (V c main_v5) t := by
  funext y
  unfold blkB
  blk_ext [iblk4, idx4 t]

theorem iblk4_1 (c : Dev nD) (t : Fin cfg4.N) : (iblk4 V c 1 t : FVec Ideal S1152x128 .f32) = V c main_v6 := by
  funext y
  blk_ext [iblk4, idx4 t]

theorem iblk4_2 (c : Dev nD) (t : Fin cfg4.N) : (iblk4 V c 2 t : FVec Ideal S1x256x1 .f32) = blkE (V c main_v9) t := by
  funext y
  unfold blkE
  blk_ext [iblk4, idx4 t]

theorem iblk4_3 (c : Dev nD) (t : Fin cfg4.N) : (iblk4 V c 3 t : FVec Ideal S512x1 .f32) = V c main_v8_1 := by
  funext y
  blk_ext [iblk4, idx4 t]

/-- The channel sums region 4 writes. -/
theorem arr4_4 (c : Dev nD) : (dat4 V c).arrAt 4 cfg4.N
    = ((fun i => lossPay (blkB (V c main_v5) (i 0)) (V c main_v6) (blkE (V c main_v9) (i 0)) (V c main_v8_1) (ix3 0 0 0))
        : FVec Ideal S384x1x1 .f32) := by
  refine (dat4 V c).arrAt_eq_of_covers 4 _ (by decide +kernel) fun t _ y => ?_
  blk_simp
  rw [after4_4]
  frame_out
  rw [iblk4_0, iblk4_1, iblk4_2, iblk4_3]
  have hc : (((View.whole main_v10).slice (win4_4.rect t)).emb y 0 : Fin 384) = t := by
    apply Fin.ext
    blk_simp [idx4 t]
  rw [hc, one3 y]
  rfl

end Cert.KernelIdeal.Value

end
-- ==== Proof.KernelValue.lean ====
/-
  What the kernel computes: its result array holds the sum of the squared differences between the corrected table, read at each
  position's index, and the masked values, over the number of values.
-/
module

public import proofs.«01_k».proof.Proof.KHost
public import proofs.«01_k».proof.Proof.KMinMax
public import proofs.«01_k».proof.Proof.KCdf
public import proofs.«01_k».proof.Proof.KTable
public import proofs.«01_k».proof.Proof.KLoss
public import proofs.«01_k».proof.Proof.Arr0
public import proofs.«01_k».proof.Proof.Arr1
public import proofs.«01_k».proof.Proof.Arr2
public import proofs.«01_k».proof.Proof.Arr3
public import proofs.«01_k».proof.Proof.Arr4

@[expose] public section

set_option maxRecDepth 16384

noncomputable section

open Idealize.ShloMosaic Idealize.ShloMosaic.TcCoe Idealize.SL.Sem

namespace Cert.KernelIdeal.Value

open Cert.KernelIdeal Cert.KernelIdeal.Gen
open Cert.Proof.Scalars Cert.Proof.Math Cert.Proof.Spec

/-- The rows of a channel and the mask's rows hold the masked values. -/
theorem rows_masked (x : FVec Ideal S1x384x384x384 .f32) (w : FVec Ideal S1x1x384x384 .f32) (k : Fin 384) :
    OnRows (blkA (shapeCast S384x16x9216 x shapeCasts_S1x384x384x384_S384x16x9216) k)
      (shapeCast S16x9216 w shapeCasts_S1x1x384x384_S16x9216) (masked x w k) := by
  intro p q l
  show shapeCast S384x16x9216 x shapeCasts_S1x384x384x384_S384x16x9216 (ix3 k p q) * _ = _
  rw [rows_at, rowsMask_at, masked]
  have e1 : p.val * 24 + q.val / 384 = (p.val * 9216 + q.val) / 384 := by omega
  have e2 : q.val % 384 = (p.val * 9216 + q.val) % 384 := by omega
  simp only [e1, e2]

/-- The tiles of a channel and the mask's tiles hold the masked values. -/
theorem tiles_masked (x : FVec Ideal S1x384x384x384 .f32) (w : FVec Ideal S1x1x384x384 .f32) (k : Fin 384) :
    OnTiles (blkB (shapeCast S384x1152x128 x shapeCasts_S1x384x384x384_S384x1152x128) k)
      (shapeCast S1152x128 w shapeCasts_S1x1x384x384_S1152x128) (masked x w k) := by
  intro p q l
  show shapeCast S384x1152x128 x shapeCasts_S1x384x384x384_S384x1152x128 (ix3 k p q) * _ = _
  rw [tiles_at, tilesMask_at, masked]
  have e1 : p.val / 3 = (p.val * 128 + q.val) / 384 := by omega
  have e2 : p.val % 3 * 128 + q.val = (p.val * 128 + q.val) % 384 := by omega
  simp only [e1, e2]

section
variable (m : (ℓ : Loc nD τ sig) → Buf (Elt Ideal) ℓ) (ρ : Dev nD → PrngReg) (c : Dev nD)

/-- The three inputs. -/
def inX : FVec Ideal S1x384x384x384 .f32 := m ((c.tc : Thread nD τ).loc main_arg0)
def inS : FVec Ideal S1x384x384x384 .f32 := m ((c.tc : Thread nD τ).loc main_arg1)
def inW : FVec Ideal S1x1x384x384 .f32 := m ((c.tc : Thread nD τ).loc main_arg2)

theorem v1_v0 : W1 m ρ c (Proc.devRef .tc main_v0) = (shapeCast S384x16x9216 (inS m c) shapeCasts_S1x384x384x384_S384x16x9216 : FVec Ideal S384x16x9216 .f32) :=
  host0_v0 (W0 m ρ c)

theorem v1_v1 : W1 m ρ c (Proc.devRef .tc main_v1) = (shapeCast S16x9216 (inW m c) shapeCasts_S1x1x384x384_S16x9216 : FVec Ideal S16x9216 .f32) :=
  host0_v1 (W0 m ρ c)

/-- The least style values. -/
theorem v2_low (k : Fin 384) : (W2 m ρ c (Proc.devRef .tc main_v2_0) : FVec Ideal S384x1x1 .f32) (ix3 k 0 0) = least (masked (inS m c) (inW m c) k) := by
  have e : W2 m ρ c (Proc.devRef .tc main_v2_0) = _ := (W2_arr m ρ c 2).trans (arr0_2 (V1 m ρ) c)
  rw [e]
  refine k0_pay2_at _ _ _ ?_
  show OnRows (blkA (W1 m ρ c (Proc.devRef .tc main_v0)) k) (W1 m ρ c (Proc.devRef .tc main_v1)) _
  rw [v1_v0, v1_v1]
  exact rows_masked _ _ k

/-- The greatest style values. -/
theorem v2_high (k : Fin 384) : (W2 m ρ c (Proc.devRef .tc main_v2_1) : FVec Ideal S384x1x1 .f32) (ix3 k 0 0) = greatest (masked (inS m c) (inW m c) k) := by
  have e : W2 m ρ c (Proc.devRef .tc main_v2_1) = _ := (W2_arr m ρ c 3).trans (arr0_3 (V1 m ρ) c)
  rw [e]
  refine k0_pay3_at _ _ _ ?_
  show OnRows (blkA (W1 m ρ c (Proc.devRef .tc main_v0)) k) (W1 m ρ c (Proc.devRef .tc main_v1)) _
  rw [v1_v0, v1_v1]
  exact rows_masked _ _ k

theorem v2_v0 : W2 m ρ c (Proc.devRef .tc main_v0) = (shapeCast S384x16x9216 (inS m c) shapeCasts_S1x384x384x384_S384x16x9216 : FVec Ideal S384x16x9216 .f32) :=
  (W2_of m ρ c main_v0 (by decide)).trans (v1_v0 m ρ c)

theorem v2_v1 : W2 m ρ c (Proc.devRef .tc main_v1) = (shapeCast S16x9216 (inW m c) shapeCasts_S1x1x384x384_S16x9216 : FVec Ideal S16x9216 .f32) :=
  (W2_of m ρ c main_v1 (by decide)).trans (v1_v1 m ρ c)

/-- The bins of the style values. -/
abbrev codes : Fin 384 → Fin 147456 → ℕ := code (masked (inS m c) (inW m c))

/-- The histograms. -/
theorem v3_hist (k : Fin 384) (p r : Fin 16) : (W3 m ρ c (Proc.devRef .tc main_v3) : FVec Ideal S384x16x16 .f32) (ix3 k p r)
    = ((occ (codes m c) k (16 * p.val + r.val) : ℝ) : EReal) := by
  have e : W3 m ρ c (Proc.devRef .tc main_v3) = _ := (W3_arr m ρ c 4).trans (arr1_4 (V2 m ρ) c)
  rw [e]
  refine hist_at _ _ _ _ (masked (inS m c) (inW m c)) k ?_ (v2_low m ρ c k) (v2_high m ρ c k) p r
  show OnRows (blkA (W2 m ρ c (Proc.devRef .tc main_v0)) k) (W2 m ρ c (Proc.devRef .tc main_v1)) _
  rw [v2_v0, v2_v1]
  exact rows_masked _ _ k

/-- The histograms in rows of 256. -/
theorem v4_hist (k : Fin 384) (b : Fin 256) : (W4 m ρ c (Proc.devRef .tc main_v4) : FVec Ideal S384x256 .f32) (ix2 k b)
    = ((occ (codes m c) k b.val : ℝ) : EReal) := by
  have e : W4 m ρ c (Proc.devRef .tc main_v4) = _ := host2_v4 (W3 m ρ c)
  rw [e, digits_at, v3_hist]
  have : 16 * (b.val / 16) + b.val % 16 = b.val := by omega
  simp only [this]

theorem v4_v5 : W4 m ρ c (Proc.devRef .tc main_v5) = (shapeCast S384x1152x128 (inX m c) shapeCasts_S1x384x384x384_S384x1152x128 : FVec Ideal S384x1152x128 .f32) := by
  refine (host2_v5 (W3 m ρ c)).trans ?_
  rw [show W3 m ρ c (Proc.devRef .tc main_arg0) = inX m c from W3_args m ρ c main_arg0 (by decide)]

theorem v4_v6 : W4 m ρ c (Proc.devRef .tc main_v6) = (shapeCast S1152x128 (inW m c) shapeCasts_S1x1x384x384_S1152x128 : FVec Ideal S1152x128 .f32) := by
  refine (host2_v6 (W3 m ρ c)).trans ?_
  rw [show W3 m ρ c (Proc.devRef .tc main_arg2) = inW m c from W3_args m ρ c main_arg2 (by decide)]

/-- The least of channel 0. -/
theorem v5_low : (W5 m ρ c (Proc.devRef .tc main_v7_0) : FVec Ideal S1x1x1 .f32) (ix3 0 0 0) = least (masked (inX m c) (inW m c) 0) := by
  have e : W5 m ρ c (Proc.devRef .tc main_v7_0) = _ := (W5_arr m ρ c 2).trans (arr2_2 (V4 m ρ) c)
  rw [e]
  refine k2_pay2_at _ _ _ ?_
  show OnTiles (blkB (W4 m ρ c (Proc.devRef .tc main_v5)) 0) (W4 m ρ c (Proc.devRef .tc main_v6)) _
  rw [v4_v5, v4_v6]
  exact tiles_masked _ _ 0

/-- The greatest of channel 0. -/
theorem v5_high : (W5 m ρ c (Proc.devRef .tc main_v7_1) : FVec Ideal S1x1x1 .f32) (ix3 0 0 0) = greatest (masked (inX m c) (inW m c) 0) := by
  have e : W5 m ρ c (Proc.devRef .tc main_v7_1) = _ := (W5_arr m ρ c 3).trans (arr2_3 (V4 m ρ) c)
  rw [e]
  refine k2_pay3_at _ _ _ ?_
  show OnTiles (blkB (W4 m ρ c (Proc.devRef .tc main_v5)) 0) (W4 m ρ c (Proc.devRef .tc main_v6)) _
  rw [v4_v5, v4_v6]
  exact tiles_masked _ _ 0

theorem v5_hist (k : Fin 384) (b : Fin 256) : (W5 m ρ c (Proc.devRef .tc main_v4) : FVec Ideal S384x256 .f32) (ix2 k b)
    = ((occ (codes m c) k b.val : ℝ) : EReal) := by
  rw [show W5 m ρ c (Proc.devRef .tc main_v4) = _ from W5_of m ρ c main_v4 (by decide)]
  exact v4_hist m ρ c k b

/-- The running sums, as the fourth body makes them. -/
theorem run2_at (k : Fin 384) (b : Fin 256) : k3_pay2 (F := Ideal) (V5 m ρ c main_v4) (ix2 k b) = ((cum (codes m c) k b.val : ℝ) : EReal) := by
  rw [k3_pay2_at _ (fun k b => occ (codes m c) k b) (v5_hist m ρ c) (occ_sum _ (code_le _)) k b, window_all _ _ _ b.isLt]
  rfl

/-- The running sums as stored. -/
theorem v6_cum (k : Fin 384) (b : Fin 256) : (W6 m ρ c (Proc.devRef .tc main_v8_0) : FVec Ideal S384x256 .f32) (ix2 k b)
    = ((cum (codes m c) k b.val : ℝ) : EReal) := by
  have e : W6 m ρ c (Proc.devRef .tc main_v8_0) = _ := (W6_arr m ρ c 3).trans (arr3_3 (V5 m ρ) c)
  rw [e, k3_pay3_at _ (fun k b => occ (codes m c) k b) (v5_hist m ρ c) (occ_sum _ (code_le _)) k b, window_all _ _ _ b.isLt]
  rfl

/-- The table as stored. -/
theorem v6_table (lo hi : ℝ) (hlo : least (masked (inX m c) (inW m c) 0) = (lo : EReal)) (hhi : greatest (masked (inX m c) (inW m c) 0) = (hi : EReal))
    (k : Fin 512) : (W6 m ρ c (Proc.devRef .tc main_v8_1) : FVec Ideal S512x1 .f32) (ix2 k 0)
      = ((table lo ((hi - lo) / 256) (cum (codes m c) 0) k.val : ℝ) : EReal) := by
  have e : W6 m ρ c (Proc.devRef .tc main_v8_1) = _ := (W6_arr m ρ c 4).trans (arr3_4 (V5 m ρ) c)
  rw [e]
  exact k3_pay1_at _ _ _ _ (cum (codes m c) 0) lo hi k (k3_pay6_at _ _ (run2_at m ρ c 0) k)
    (k3_pay7_at _ _ (run2_at m ρ c 0) k (index_lt _ (code_le _) 0 k.val (by omega)))
    ((v5_low m ρ c).trans hlo) ((v5_high m ρ c).trans hhi)

theorem v7_cum (k : Fin 384) (b : Fin 256) : (W7 m ρ c (Proc.devRef .tc main_v9) : FVec Ideal S384x256x1 .f32) (ix3 k b 0)
    = ((cum (codes m c) k b.val : ℝ) : EReal) := by
  have e : W7 m ρ c (Proc.devRef .tc main_v9) = _ := host4_v9 (W6 m ρ c)
  rw [e, tall_at]
  exact v6_cum m ρ c k b

theorem v7_table (lo hi : ℝ) (hlo : least (masked (inX m c) (inW m c) 0) = (lo : EReal)) (hhi : greatest (masked (inX m c) (inW m c) 0) = (hi : EReal))
    (k : Fin 512) : (W7 m ρ c (Proc.devRef .tc main_v8_1) : FVec Ideal S512x1 .f32) (ix2 k 0)
      = ((table lo ((hi - lo) / 256) (cum (codes m c) 0) k.val : ℝ) : EReal) := by
  rw [show W7 m ρ c (Proc.devRef .tc main_v8_1) = _ from W7_of m ρ c main_v8_1 (by decide)]
  exact v6_table m ρ c lo hi hlo hhi k

theorem v7_v5 : W7 m ρ c (Proc.devRef .tc main_v5) = (shapeCast S384x1152x128 (inX m c) shapeCasts_S1x384x384x384_S384x1152x128 : FVec Ideal S384x1152x128 .f32) :=
  (W7_of m ρ c main_v5 (by decide)).trans ((W6_of m ρ c main_v5 (by decide)).trans ((W5_of m ρ c main_v5 (by decide)).trans (v4_v5 m ρ c)))

theorem v7_v6 : W7 m ρ c (Proc.devRef .tc main_v6) = (shapeCast S1152x128 (inW m c) shapeCasts_S1x1x384x384_S1152x128 : FVec Ideal S1152x128 .f32) :=
  (W7_of m ρ c main_v6 (by decide)).trans ((W6_of m ρ c main_v6 (by decide)).trans ((W5_of m ρ c main_v6 (by decide)).trans (v4_v6 m ρ c)))

section
variable (f : Fin 384 → Fin 147456 → ℝ) (hf : ∀ k j, masked (inX m c) (inW m c) k j = (f k j : EReal)) (lo hi : ℝ)
  (hlo : least (masked (inX m c) (inW m c) 0) = (lo : EReal)) (hhi : greatest (masked (inX m c) (inW m c) 0) = (hi : EReal))
include hf hlo hhi

/-- The channel sums. -/
theorem v8_sum (k : Fin 384) : (W8 m ρ c (Proc.devRef .tc main_v10) : FVec Ideal S384x1x1 .f32) (ix3 k 0 0)
    = ((∑ j : Fin 147456, (table lo ((hi - lo) / 256) (cum (codes m c) 0) (idx (cum (codes m c) k) j.val) - f k j)
      * (table lo ((hi - lo) / 256) (cum (codes m c) 0) (idx (cum (codes m c) k) j.val) - f k j) : ℝ) : EReal) := by
  have e : W8 m ρ c (Proc.devRef .tc main_v10) = _ := (W8_arr m ρ c 4).trans (arr4_4 (V7 m ρ) c)
  rw [e]
  have reads : Reads (blkB (V7 m ρ c main_v5) k) (V7 m ρ c main_v6) (fun n => if h : n < 147456 then f k ⟨n, h⟩ else 0) := by
    intro q r
    have ht : OnTiles (blkB (W7 m ρ c (Proc.devRef .tc main_v5)) k) (W7 m ρ c (Proc.devRef .tc main_v6)) (masked (inX m c) (inW m c) k) := by
      rw [v7_v5, v7_v6]
      exact tiles_masked _ _ k
    have hl : q.val * 128 + r.val < 147456 := by omega
    have hl' : 128 * q.val + r.val < 147456 := by omega
    refine (ht q r hl).trans ((hf k _).trans ?_)
    simp only [dif_pos hl']
    exact congrArg (fun j => ((f k j : ℝ) : EReal)) (Fin.ext (by simp only; omega))
  refine (lossPay_at _ _ _ _ _ (cum (codes m c) k) (table lo ((hi - lo) / 256) (cum (codes m c) 0)) reads (v7_cum m ρ c k)
    (fun a _ => v7_table m ρ c lo hi hlo hhi a) (fun a b h _ => cum_mono _ k a b h) (cum_last _ (code_le _) k)).trans ?_
  refine congrArg (fun x : ℝ => (x : EReal)) (Finset.sum_congr rfl fun j _ => ?_)
  rw [dif_pos j.isLt]

/-- The kernel's result. -/
theorem result_at : (W9 m ρ c (Proc.devRef .tc main_v12) : FVec Ideal S_ .f32) ix0
    = Ideal.div ((total lo hi (codes m c) f : ℝ) : EReal) (Ideal.ofBits .f32 0x4C580000#32) := by
  have e : W9 m ρ c (Proc.devRef .tc main_v12) = _ := host5_v12 (W8 m ρ c)
  rw [e, meanOf_at]
  refine congrArg (fun s => Ideal.div s (Ideal.ofBits .f32 0x4C580000#32)) ?_
  unfold total
  rw [← coe_sum]
  exact Finset.sum_congr rfl fun k _ => v8_sum m ρ c f hf lo hi hlo hhi k

end
end

end Cert.KernelIdeal.Value
end
-- ==== Proof.RefOps.lean ====
/-
  What three of the reference's operations compute at an index: the scattered addition of ones, the running sum along a row,
  and the sum of one-bit words along the last axis.
-/
module

public import proofs.«01_k».proof.Proof.Gen.ReferenceIdeal.Read
public import proofs.«01_k».proof.Proof.Scalars
public import Idealize.ShloMosaic.Lib.Pointwise
public import Idealize.ShloMosaic.Lib.Routing.Ops
public import Idealize.ShloMosaic.Lib.Routing.OpsPair
public import Idealize.ShloMosaic.Lib.Routing.OpsOne

@[expose] public section

set_option maxRecDepth 16384

noncomputable section

open Idealize.ShloMosaic Idealize.ShloMosaic.TcCoe Idealize.SL.Sem

namespace Cert.ReferenceIdeal.Parts

open Cert.ReferenceIdeal Cert.ReferenceIdeal.Gen
open Idealize.ShloMosaic.Routing
open Cert.Proof.Scalars

/-- Update `i` of a scatter of `M` scalars into a vector of `N` lands at entry `x` exactly when its index word, a small natural, is `x`. -/
theorem lands {N M : ℕ} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (n : ℕ)
    (hn : n < 2 ^ 31) (hg : idx (ValueIdx.ix2 i (0 : Fin 1)) = BitVec.ofNat 32 n) (x : Fin N) :
    d.resultIdx? (ValueIdx.ix1 i) idx = some (ValueIdx.ix1 x) ↔ n = x.val := by
  have hmem : (0 : Fin 1) ∈ d.scatterDimsToOperandDims := by rw [hsd]; exact List.mem_singleton.2 rfl
  have hwindow : d.window (ValueIdx.ix1 i) 0 = 0 := by
    unfold ScatterDims.window
    rw [dif_neg fun h => (of_decide_eq_true (List.mem_filter.1 h).2) (by rw [hiw]; exact List.mem_singleton.2 rfl)]
  have hword : d.siIdx (ValueIdx.ix1 i) ⟨d.scatterDimsToOperandDims.idxOf 0, List.idxOf_lt_length_iff.2 hmem⟩ = ValueIdx.ix2 i (0 : Fin 1) := by
    funext a
    refine Fin.ext ?_
    match a with
    | ⟨0, _⟩ =>
      unfold ScatterDims.siIdx
      rw [dif_neg (by rw [hivd]; exact Nat.zero_ne_one)]
      unfold ScatterDims.siCoord
      simp only [Fin.val_cast]
      have one : ∀ b : Fin 1, (ValueIdx.ix1 i b).val = i.val := fun b => by rw [Subsingleton.elim b 0]
      exact one _
    | ⟨1, _⟩ =>
      unfold ScatterDims.siIdx
      rw [dif_pos (by rw [hivd])]
      show List.idxOf (0 : Fin 1) d.scatterDimsToOperandDims = 0
      rw [hsd]; simp
  have hstart : d.start (ValueIdx.ix1 i) idx 0 = (n : Int) := by
    unfold ScatterDims.start
    rw [dif_pos hmem, hword, hg, StableHlo.Predicate.toInt_ofNat_small _ hn]
  rw [resultIdx?_ix1, hstart, hwindow]
  omega

/-- Ones added at the places `g i` into a vector of zeros: entry `x` holds the number of `i` with `g i = x`. -/
theorem histogram {N M : ℕ} (d : ScatterDims (shape1 N) (shape2 M 1) (shape1 M)) (hiw : d.insertedWindowDims = [0])
    (hsd : d.scatterDimsToOperandDims = [0]) (hivd : d.indexVectorDim = 1) (x0 : IVec (shape1 N) 32) (idx : IVec (shape2 M 1) 32)
    (upd : IVec (shape1 M) 32) (x : Fin N) (hx0 : x0 (ValueIdx.ix1 x) = 0#32) (hupd : ∀ i, upd (ValueIdx.ix1 i) = 1#32) (g : Fin M → ℕ)
    (hg : ∀ i : Fin M, idx (ValueIdx.ix2 i (0 : Fin 1)) = BitVec.ofNat 32 (g i)) (hs : ∀ i, g i < 2 ^ 31) :
    Host.scatter d IntOp.addi x0 idx upd (ValueIdx.ix1 x) = BitVec.ofNat 32 (∑ i : Fin M, if g i = x.val then 1 else 0) := by
  rw [scatter_at]
  have step : (fun (a : BitVec 32) (n : Fin (shape1 M).numel) =>
      if d.resultIdx? ((shape1 M).rowMajor.symm n) idx = some (ValueIdx.ix1 x) then IntOp.addi a (upd ((shape1 M).rowMajor.symm n)) else a)
      = fun a n => IntOp.addi a (BitVec.ofNat 32 (if g (n.cast (numel1 M)) = x.val then 1 else 0)) := by
    funext a n
    rw [symm1]
    by_cases h : g (n.cast (numel1 M)) = x.val
    · rw [if_pos ((lands d hiw hsd hivd idx _ _ (hs _) (hg _) x).2 h), if_pos h, hupd]
    · rw [if_neg (fun e => h ((lands d hiw hsd hivd idx _ _ (hs _) (hg _) x).1 e)), if_neg h]
      exact (BitVec.add_zero a).symm
  rw [step, foldl_addi_ofNat _ _ (fun n : Fin (shape1 M).numel => if g (n.cast (numel1 M)) = x.val then 1 else 0) (fun _ _ => rfl) _ 0 hx0,
    Nat.zero_add]
  congr 1
  rw [← List.sum_ofFn, ← List.ofFn_eq_map]
  congr 1
  exact List.ofFn_congr (numel1 M) _

/-- A left fold of additions of reals that hold naturals. -/
theorem foldl_nat {ι : Type} (l : List ι) (g : ι → EReal) (f : ι → ℕ) (hg : ∀ a ∈ l, g a = ((f a : ℝ) : EReal)) (v : EReal) (z : ℕ)
    (hv : v = ((z : ℝ) : EReal)) : l.foldl (fun r a => r + g a) v = (((z + (l.map f).sum : ℕ) : ℝ) : EReal) := by
  induction l generalizing v z with
  | nil => simpa using hv
  | cons a l ih =>
    rw [List.foldl_cons, ih (fun b hb => hg b (List.mem_cons_of_mem _ hb)) _ (z + f a) (by
      rw [hv, hg a List.mem_cons_self, ← EReal.coe_add, Nat.cast_add]), List.map_cons, List.sum_cons, Nat.add_assoc]

/-- A list sum over a range is the finite sum over it. -/
theorem sum_list (f : ℕ → ℕ) (n : ℕ) : ((List.range n).map f).sum = ∑ i ∈ Finset.range n, f i := by
  induction n with
  | zero => rfl
  | succ n ih => rw [List.range_succ, List.map_append, List.sum_append, ih, Finset.sum_range_succ]; simp

/-- The running sum along row `c` of a matrix whose row holds the naturals `f i`. -/
theorem running_sum (x : FVec Ideal S384x256 .f32) (f : ℕ → ℕ) (c : Fin 384) (hx : ∀ i : Fin 256, x (ix2 c i) = ((f i.val : ℝ) : EReal))
    (init : FVec Ideal S_ .f32) (hinit : ∀ i, init i = (((0 : ℕ) : ℝ) : EReal)) (k : Fin 256) :
    Host.reduceWindowAdd ![1, 256] ![1, 1] ![0, 255] ![0, 0] x init reduceWindows_S384x256_S384x256_w1s1p0_0_w256s1p255_0 h_S_ (ix2 c k)
      = (((∑ i ∈ Finset.range (k.val + 1), f i : ℕ) : ℝ) : EReal) := by
  show Ideal.hostReduceWindowAdd ![1, 256] ![1, 1] ![0, 255] ![0, 0] reduceWindows_S384x256_S384x256_w1s1p0_0_w256s1p255_0 x
    (init (Shape.Idx.first h_S_)) (ix2 c k) = _
  unfold Ideal.hostReduceWindowAdd Host.reduceWindow
  have hk := k.isLt
  refine (foldl_nat _ _ (fun n => if 255 ≤ k.val + n.val then f (k.val + n.val - 255) else 0) (fun n _ => ?_) _ 0 (hinit _)).trans ?_
  · have hw0 : ((shape2 1 256).rowMajor.symm n 0).val = 0 := by rw [symm2]; rfl
    have hw1 : ((shape2 1 256).rowMajor.symm n 1).val = n.val := by rw [symm2]; rfl
    have hn : n.val < 256 := (n.cast (numel2 256)).isLt
    dsimp only
    split
    · next hin =>
      have h1 := hin 1
      change 255 ≤ k.val * 1 + ((shape2 1 256).rowMajor.symm n 1).val ∧ k.val * 1 + ((shape2 1 256).rowMajor.symm n 1).val - 255 < 256 at h1
      rw [hw1] at h1
      rw [if_pos (by omega)]
      refine (congrArg x (funext fun a => Fin.ext ?_)).trans (hx ⟨k.val + n.val - 255, by omega⟩)
      match a with
      | ⟨0, _⟩ =>
        show c.val * 1 + ((shape2 1 256).rowMajor.symm n 0).val - 0 = c.val
        rw [hw0]; omega
      | ⟨1, _⟩ =>
        show k.val * 1 + ((shape2 1 256).rowMajor.symm n 1).val - 255 = k.val + n.val - 255
        rw [hw1, Nat.mul_one]
    · next hin =>
      rw [if_neg fun hle => hin fun a => by
        match a with
        | ⟨0, _⟩ =>
          show 0 ≤ c.val * 1 + ((shape2 1 256).rowMajor.symm n 0).val ∧ c.val * 1 + ((shape2 1 256).rowMajor.symm n 0).val - 0 < 384
          have := c.isLt
          rw [hw0]; omega
        | ⟨1, _⟩ =>
          show 255 ≤ k.val * 1 + ((shape2 1 256).rowMajor.symm n 1).val ∧ k.val * 1 + ((shape2 1 256).rowMajor.symm n 1).val - 255 < 256
          rw [hw1]; omega]
      exact hinit _
  · refine congrArg (fun n : ℕ => ((n : ℝ) : EReal)) ?_
    rw [Nat.zero_add]
    refine (congrArg List.sum (map_finRange_val _ (fun n => if 255 ≤ k.val + n then f (k.val + n - 255) else 0))).trans ?_
    rw [show (Shape.numel ⟨2, ![1, 256]⟩) = 255 + 1 from numel2 256, sum_window f 255 k.val (by omega)]
    exact sum_list f _

/-- A sum of words that hold naturals holds the sum of the naturals. -/
theorem fold_words {ι : Type} (s : Finset ι) (g : ι → BitVec 32) (f : ι → ℕ) (hg : ∀ a, g a = BitVec.ofNat 32 (f a)) :
    Finset.fold IntOp.addi (0#32) g s = BitVec.ofNat 32 (∑ a ∈ s, f a) := by
  classical
  induction s using Finset.induction_on with
  | empty => rfl
  | insert a s ha ih =>
    rw [Finset.fold_insert ha, ih, Finset.sum_insert ha, hg]
    exact (BitVec.ofNat_add _ _).symm

end Cert.ReferenceIdeal.Parts
end
-- ==== Proof.RefBins.lean ====
/-
  The reference's bins and its histogram: the bin of each style value, and for each channel the number of positions in each bin.
-/
module

public import proofs.«01_k».proof.Proof.RefOps
public import proofs.«01_k».proof.Proof.Spec

@[expose] public section

set_option maxRecDepth 16384

noncomputable section

open Idealize.ShloMosaic Idealize.ShloMosaic.TcCoe Idealize.SL.Sem

namespace Cert.ReferenceIdeal.Parts

open Cert.ReferenceIdeal Cert.ReferenceIdeal.Gen Cert.ReferenceIdeal.Read
open Cert.Proof.Scalars Cert.Proof.Spec

/-- The scaled style values, from the values and their least and greatest per channel. -/
def quotients (v : FVec Ideal S384x147456 .f32) (lo hi : FVec Ideal S384 .f32) : FVec Ideal S384x147456 .f32 :=
  Host.divf (subf v (broadcastInDim S384x147456 ![0, 1] bcast_S384x1_S384x147456_0_1 (broadcastInDim S384x1 ![0] bcast_S384_S384x1_0 lo)))
    (broadcastInDim S384x147456 ![0, 1] bcast_S384x1_S384x147456_0_1
      (addf (Host.divf (subf (broadcastInDim S384x1 ![0] bcast_S384_S384x1_0 hi) (broadcastInDim S384x1 ![0] bcast_S384_S384x1_0 lo))
        (val_main_v8 (F := Ideal))) (val_main_v12 (F := Ideal))))

theorem quotients_at (v : FVec Ideal S384x147456 .f32) (lo hi : FVec Ideal S384 .f32) (c : Fin 384) (j : Fin 147456) :
    quotients v lo hi (ix2 c j) = quo (v (ix2 c j)) (lo (ix1 c)) (hi (ix1 c)) := by
  pointwise [quotients, val_main_v8, val_main_v12, val_main_cst_1, val_main_cst_2, quo]

theorem quotients_eq (x1 x2) : val_main_v15 (F := Ideal) x1 x2
    = quotients (val_main_v2 (F := Ideal) x1 x2) (val_main_v3 (F := Ideal) x1 x2) (val_main_v5 (F := Ideal) x1 x2) := rfl

/-- The clipped whole parts of the scaled values. -/
def bins (q : FVec Ideal S384x147456 .f32) : IVec S384x147456 32 :=
  minsi (val_main_call0_v4 (F := Ideal)) (maxsi (val_main_call0_v1 (F := Ideal)) (fptosi 32 (Host.floor q)))

theorem bins_eq (x1 x2) : val_main_v18 (F := Ideal) x1 x2 = bins (val_main_v15 (F := Ideal) x1 x2) := rfl

theorem bins_at (q : FVec Ideal S384x147456 .f32) (c : Fin 384) (j : Fin 147456) :
    bins q (ix2 c j) = BitVec.ofNat 32 (bin (q (ix2 c j))) := by
  pointwise [bins, val_main_call0_v4, val_main_call0_v1, val_main_call0_v0, val_main_call0_v3, val_main_c, val_main_c_3]
  exact bin_int _

/-- The bins numbered through all channels, in one row, and clipped below. -/
def clippedKeys (b : IVec S384x147456 32) : IVec S56623104 32 :=
  maxsi (val_main_call1_v1 (F := Ideal)) (shapeCast _ (addi b (val_main_v23 (F := Ideal))) shapeCasts_S384x147456_S56623104)

/-- The same after the wrap of negative indices, as a column of index words. -/
def keys (b : IVec S384x147456 32) : IVec S56623104x1 32 :=
  broadcastInDim S56623104x1 ![0] bcast_S56623104_S56623104x1_0 (select (cmpi .slt (clippedKeys b) (val_main_v28 (F := Ideal)))
    (addi (clippedKeys b) (val_main_v30 (F := Ideal))) (clippedKeys b))

theorem keys_eq (x1 x2) : val_main_v33 (F := Ideal) x1 x2 = keys (val_main_v18 (F := Ideal) x1 x2) := rfl

/-- A small natural is not below zero as a word: the larger of it and zero is itself. -/
theorem max_zero (n : ℕ) (h : n < 2 ^ 31) : IntOp.maxsi 0#32 (BitVec.ofNat 32 n) = BitVec.ofNat 32 n := by
  unfold IntOp.maxsi
  have e : (BitVec.ofNat 32 n).slt 0#32 = false := by
    rw [BitVec.slt_eq_decide, StableHlo.Predicate.toInt_ofNat_small _ h]
    exact decide_eq_false (by simp)
  rw [e]
  rfl

/-- A small natural is not wrapped. -/
theorem no_wrap (n : ℕ) (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat]; exact lt_of_le_of_lt (Nat.mod_le _ _) h)

theorem clippedKeys_at (b : IVec S384x147456 32) (n : Fin 384 → Fin 147456 → ℕ) (hb : ∀ c j, b (ix2 c j) = BitVec.ofNat 32 (n c j))
    (hn : ∀ c j, n c j ≤ 255) (p : Fin 56623104) :
    clippedKeys b (ix1 p) = BitVec.ofNat 32 (n ⟨p.val / 147456, by omega⟩ ⟨p.val % 147456, by omega⟩ + p.val / 147456 * 256) := by
  have hle := hn ⟨p.val / 147456, by omega⟩ ⟨p.val % 147456, by omega⟩
  pointwise [clippedKeys, val_main_call1_v1, val_main_call1_v0, val_main_c_6, val_main_v23, val_main_v22, val_main_v21, val_main_v20, val_main_v19, val_main_c_4]
  rw [hb]
  have e : IntOp.addi (BitVec.ofNat 32 (n ⟨p.val / 147456, by omega⟩ ⟨p.val % 147456, by omega⟩)) (IntOp.muli (BitVec.ofNat 32 (p.val / 147456)) 256#32)
      = BitVec.ofNat 32 (n ⟨p.val / 147456, by omega⟩ ⟨p.val % 147456, by omega⟩ + p.val / 147456 * 256) := by
    rw [BitVec.ofNat_add, BitVec.ofNat_mul]
    rfl
  rw [e]
  exact max_zero _ (by omega)

theorem keys_at (b : IVec S384x147456 32) (n : Fin 384 → Fin 147456 → ℕ) (hb : ∀ c j, b (ix2 c j) = BitVec.ofNat 32 (n c j))
    (hn : ∀ c j, n c j ≤ 255) (p : Fin 56623104) :
    keys b (ix2 p 0) = BitVec.ofNat 32 (n ⟨p.val / 147456, by omega⟩ ⟨p.val % 147456, by omega⟩ + p.val / 147456 * 256) := by
  have hle := hn ⟨p.val / 147456, by omega⟩ ⟨p.val % 147456, by omega⟩
  pointwise [keys, val_main_v28, val_main_c_7]
  rw [clippedKeys_at b n hb hn]
  exact no_wrap _ (by omega) _

/-- The histogram's counts from the columns of index words. -/
def counts (k : IVec S56623104x1 32) : IVec S98304 32 :=
  Host.scatter scatter_S98304_S56623104x1_S56623104_n_0_0_1 IntOp.addi (val_main_v26 (F := Ideal)) k (val_main_v34 (F := Ideal))

/-- The counts as numbers, one row per channel. -/
def histogramRows (s : IVec S98304 32) : FVec Ideal S384x256 .f32 := sitofp .f32 (shapeCast S384x256 s shapeCasts_S98304_S384x256)

theorem histogramRows_eq (x1 x2) : val_main_v37 (F := Ideal) x1 x2 = histogramRows (counts (val_main_v33 (F := Ideal) x1 x2)) := rfl

/-- Entry `256 c + k` of the counts is the number of positions of channel `c` in bin `k`. -/
theorem counts_at (b : IVec S384x147456 32) (n : Fin 384 → Fin 147456 → ℕ) (hb : ∀ c j, b (ix2 c j) = BitVec.ofNat 32 (n c j))
    (hn : ∀ c j, n c j ≤ 255) (c : Fin 384) (k : Fin 256) :
    counts (keys b) (ix1 ⟨c.val * 256 + k.val, by omega⟩) = BitVec.ofNat 32 (occ n c k.val) := by
  have h0 : ∀ i : Fin 98304, val_main_v26 (F := Ideal) (ix1 i) = 0#32 := fun i => by pointwise [val_main_v26, val_main_c_5]
  have h1 : ∀ i : Fin 56623104, val_main_v34 (F := Ideal) (ix1 i) = 1#32 := fun i => by pointwise [val_main_v34, val_main_c_9]
  refine (histogram scatter_S98304_S56623104x1_S56623104_n_0_0_1 rfl rfl rfl (val_main_v26 (F := Ideal)) (keys b) (val_main_v34 (F := Ideal))
    ⟨c.val * 256 + k.val, by omega⟩ (h0 _) h1 (fun p => n ⟨p.val / 147456, by omega⟩ ⟨p.val % 147456, by omega⟩ + p.val / 147456 * 256)
    (fun p => keys_at b n hb hn p) (fun p => by
      have hle := hn ⟨p.val / 147456, by omega⟩ ⟨p.val % 147456, by omega⟩
      omega)).trans ?_
  refine congrArg (BitVec.ofNat 32) ?_
  rw [Fin.sum_univ_tiles 384 147456 rfl, occ]
  rw [Finset.sum_eq_single c]
  · refine Finset.sum_congr rfl fun j _ => ?_
    have e1 : (c.val * 147456 + j.val) / 147456 = c.val := by omega
    have e2 : (c.val * 147456 + j.val) % 147456 = j.val := by omega
    simp only [e1, e2]
    refine if_congr ?_ rfl rfl
    simp only [Fin.eta]
    omega
  · intro a _ ha
    refine Finset.sum_eq_zero fun j _ => if_neg ?_
    have e1 : (a.val * 147456 + j.val) / 147456 = a.val := by omega
    have e2 : (a.val * 147456 + j.val) % 147456 = j.val := by omega
    simp only [e1, e2, Fin.eta]
    have hle := hn a j
    have hne : a.val ≠ c.val := fun e => ha (Fin.ext e)
    omega
  · intro h; exact absurd (Finset.mem_univ _) h

theorem histogramRows_at (b : IVec S384x147456 32) (n : Fin 384 → Fin 147456 → ℕ) (hb : ∀ c j, b (ix2 c j) = BitVec.ofNat 32 (n c j))
    (hn : ∀ c j, n c j ≤ 255) (c : Fin 384) (k : Fin 256) :
    histogramRows (counts (keys b)) (ix2 c k) = ((occ n c k.val : ℝ) : EReal) := by
  pointwise [histogramRows]
  rw [counts_at b n hb hn c k]
  exact ofNat_float _ (lt_of_le_of_lt (occ_le n c k.val) (by norm_num))

end Cert.ReferenceIdeal.Parts
end
-- ==== Proof.RefCdf.lean ====
/-
  The reference's cumulative histogram, the histogram before each bin, and for each position the number of bins wholly below it.
-/
module

public import proofs.«01_k».proof.Proof.RefBins
public import proofs.«01_k».proof.Proof.Table

@[expose] public section

set_option maxRecDepth 16384

noncomputable section

open Idealize.ShloMosaic Idealize.ShloMosaic.TcCoe Idealize.SL.Sem

namespace Cert.ReferenceIdeal.Parts

open Cert.ReferenceIdeal Cert.ReferenceIdeal.Gen Cert.ReferenceIdeal.Read
open Cert.Proof.Scalars Cert.Proof.Math

/-- A histogram brought to 147456 positions per channel. -/
def scaled (h : FVec Ideal S384x256 .f32) : FVec Ideal S384x256 .f32 :=
  Host.divf (mulf h (val_main_v52 (F := Ideal))) (broadcastInDim S384x256 ![0, 1] bcast_S384x1_S384x256_0_1
    (broadcastInDim S384x1 ![0] bcast_S384_S384x1_0 (Host.reduceAdd h (val_main_cst_15 (F := Ideal)) reducesTo_S384x256_S384_d1 h_S_)))

theorem scaled_eq (x1 x2) : val_main_v57 (F := Ideal) x1 x2 = scaled (val_main_v37 (F := Ideal) x1 x2) := rfl

theorem scaled_at (h : FVec Ideal S384x256 .f32) (n : ℕ → ℕ) (c : Fin 384) (hh : ∀ k : Fin 256, h (ix2 c k) = ((n k.val : ℝ) : EReal))
    (hs : ∑ k ∈ Finset.range 256, n k = 147456) (k : Fin 256) : scaled h (ix2 c k) = ((n k.val : ℝ) : EReal) := by
  have e : scaled h (ix2 c k) = Ideal.div (h (ix2 c k) * Ideal.ofBits .f32 0x48100000#32) (∑ x : Fin 256, h (ix2 c x)) := by
    pointwise [scaled, val_main_v52, val_main_cst_14, val_main_cst_15]
  have total : ∑ x : Fin 256, h (ix2 c x) = ((147456 : ℝ) : EReal) := by
    rw [Finset.sum_congr rfl fun x _ => hh x, coe_sum, ← Nat.cast_sum, Fin.sum_univ_eq_sum_range, hs]
    norm_num
  rw [e, total, hh, lit_N, ← EReal.coe_mul, coe_div _ _ (by norm_num)]
  refine congrArg (fun r : ℝ => (r : EReal)) ?_
  field_simp

/-- The running sums of the rows. -/
def cumulative (h : FVec Ideal S384x256 .f32) : FVec Ideal S384x256 .f32 :=
  Host.reduceWindowAdd ![1, 256] ![1, 1] ![0, 255] ![0, 0] h (val_main_call2_call0_v0 (F := Ideal)) reduceWindows_S384x256_S384x256_w1s1p0_0_w256s1p255_0 h_S_

theorem cumulative_eq (x1 x2) : val_main_v58 (F := Ideal) x1 x2 = cumulative (val_main_v57 (F := Ideal) x1 x2) := rfl

/-- A running sum of a row of naturals is the natural running sum. -/
theorem cumulative_at (h : FVec Ideal S384x256 .f32) (n : ℕ → ℕ) (c : Fin 384) (hh : ∀ k : Fin 256, h (ix2 c k) = ((n k.val : ℝ) : EReal))
    (k : Fin 256) : cumulative h (ix2 c k) = (((∑ i ∈ Finset.range (k.val + 1), n i : ℕ) : ℝ) : EReal) := by
  refine running_sum h n c hh _ (fun i => ?_) k
  show Ideal.ofBits .f32 0x00000000#32 = _
  simp [Ideal.ofBits, Ideal.ieee]

/-- The rows moved one place to the right, a zero in front. -/
def moved (h : FVec Ideal S384x256 .f32) : FVec Ideal S384x256 .f32 :=
  concatenate S384x256 1 [⟨S384x1, (val_main_v59 (F := Ideal))⟩, ⟨S384x255, extractStridedSlice S384x255 ![0, 0] h slices_S384x256_S384x255_0_0⟩]
    concatenates_S384x1_S384x255_S384x256_d1

theorem moved_eq (x1 x2) : val_main_v61 (F := Ideal) x1 x2 = moved (val_main_v58 (F := Ideal) x1 x2) := rfl

theorem moved_at (h : FVec Ideal S384x256 .f32) (H : ℕ → ℕ) (c : Fin 384) (hh : ∀ k : Fin 256, h (ix2 c k) = ((H k.val : ℝ) : EReal))
    (k : Fin 256) : moved h (ix2 c k) = ((prev H k.val : ℝ) : EReal) := by
  have e : moved h (ix2 c k) = if g : k.val < 1 then 0 else h (ix2 c ⟨k.val - 1, by omega⟩) := by
    pointwise [moved, val_main_v59, val_main_cst_16]
  rw [e]
  unfold prev
  by_cases hk : k.val < 1
  · rw [dif_pos hk, if_pos (by omega)]; simp
  · rw [dif_neg hk, if_neg (by omega), hh]

/-- For each position the number of entries of the cumulative row below its place. -/
def below (h : FVec Ideal S384x256 .f32) : IVec S384x147456 32 :=
  Host.reduce IntOp.addi (extui 32 (cmpf .olt (broadcastInDim S384x147456x256 ![0, 1, 2] bcast_S384x1x256_S384x147456x256_0_1_2
    (broadcastInDim S384x1x256 ![0, 2] bcast_S384x256_S384x1x256_0_2 h)) (val_main_v66 (F := Ideal))) natLt_1_32) (val_main_c_17 (F := Ideal)) reducesTo_S384x147456x256_S384x147456_d2 h_S_

theorem below_eq (x1 x2) : val_main_v69 (F := Ideal) x1 x2 = below (val_main_v58 (F := Ideal) x1 x2) := rfl

/-- The place of position `j`, counted from one. -/
theorem place_at (c : Fin 384) (j : Fin 147456) (x : Fin 256) : val_main_v66 (F := Ideal) (ix3 c j x) = (((j.val : ℝ) + 1 : ℝ) : EReal) := by
  have e : val_main_v66 (F := Ideal) (ix3 c j x) = 1 + FloatOps.sitofp (F := Ideal) FTy.f32 (BitVec.ofNat 32 j.val) := by
    pointwise [val_main_v66, val_main_v64, val_main_v63, val_main_v51, val_main_v50, val_main_v49, val_main_v48, val_main_cst_13]
  rw [e, ofNat_float _ (by omega), add_comm, EReal.coe_add]
  rfl

theorem below_at (h : FVec Ideal S384x256 .f32) (H : ℕ → ℕ) (c : Fin 384) (hh : ∀ k : Fin 256, h (ix2 c k) = ((H k.val : ℝ) : EReal))
    (j : Fin 147456) : below h (ix2 c j) = BitVec.ofNat 32 (idx H j.val) := by
  have e : below h (ix2 c j) = Finset.fold IntOp.addi (val_main_c_17 (F := Ideal) (Shape.Idx.first h_S_))
      (fun x : Fin 256 => BitVec.setWidth 32 (BitVec.ofBool (decide (h (ix2 c x) < val_main_v66 (F := Ideal) (ix3 c j x))))) Finset.univ := by
    pointwise [below]
  rw [e]
  refine (fold_words Finset.univ _ (fun x : Fin 256 => if H x.val < j.val + 1 then 1 else 0) fun x => ?_).trans
    (congrArg (BitVec.ofNat 32) (idx_count H j.val))
  rw [hh, place_at]
  have iff : (((H x.val : ℝ) : EReal) < (((j.val : ℝ) + 1 : ℝ) : EReal)) ↔ H x.val < j.val + 1 := by
    rw [EReal.coe_lt_coe_iff]
    exact_mod_cast Iff.rfl
  by_cases hk : H x.val < j.val + 1
  · rw [if_pos hk, decide_eq_true (iff.2 hk)]; rfl
  · rw [if_neg hk, decide_eq_false (fun g => hk (iff.1 g))]; rfl

end Cert.ReferenceIdeal.Parts
end
-- ==== Proof.RefTable.lean ====
/-
  The reference's table of corrected values, read at channel 0 and at the first 256 places, and the values read back from it.
-/
module

public import proofs.«01_k».proof.Proof.RefCdf
public import Idealize.ShloMosaic.Lib.Routing.OpsSet

@[expose] public section

set_option maxRecDepth 16384

noncomputable section

open Idealize.ShloMosaic Idealize.ShloMosaic.TcCoe Idealize.SL.Sem

namespace Cert.ReferenceIdeal.Parts

open Cert.ReferenceIdeal Cert.ReferenceIdeal.Gen Cert.ReferenceIdeal.Read
open Cert.Proof.Scalars Cert.Proof.Math

/-- Index words in one column after the wrap of negative ones. -/
def column (w : IVec S384x147456 32) (z n : IVec S_ 32) : IVec S56623104x1 32 :=
  broadcastInDim S56623104x1 ![0] bcast_S56623104_S56623104x1_0
    (select (cmpi .slt (shapeCast S56623104 w shapeCasts_S384x147456_S56623104) (broadcastInDim S56623104 ![] bcast_S_S56623104 z))
      (addi (shapeCast S56623104 w shapeCasts_S384x147456_S56623104) (broadcastInDim S56623104 ![] bcast_S_S56623104 n))
      (shapeCast S56623104 w shapeCasts_S384x147456_S56623104))

theorem column_at (w : IVec S384x147456 32) (z n : IVec S_ 32) (hz : z ix0 = 0#32) (c : Fin 384) (j : Fin 147456) (i : ℕ)
    (hw : w (ix2 c j) = BitVec.ofNat 32 i) (hi : i < 2 ^ 31) (p : Fin 56623104) (hp : p.val = c.val * 147456 + j.val) :
    column w z n (ix2 p 0) = BitVec.ofNat 32 i := by
  pointwise [column]
  have e1 : (⟨p.val / 147456, by omega⟩ : Fin 384) = c := Fin.ext (by simp only; omega)
  have e2 : (⟨p.val % 147456, by omega⟩ : Fin 147456) = j := Fin.ext (by simp only; omega)
  rw [e1, e2, hz, hw]
  exact no_wrap _ hi _

/-- The entries of a flat table at the columns' words, as rows. -/
def look (t : FVec Ideal S98304 .f32) (k : IVec S56623104x1 32) : FVec Ideal S384x147456 .f32 :=
  shapeCast S384x147456 (Host.gather gather_S98304_S56623104x1_S56623104_n_0_n_n_0_1_1 t k) shapeCasts_S56623104_S384x147456

/-- A look-up by rows of a table given by rows, with indices inside the first row: it reads the first row. -/
theorem look_at (h : FVec Ideal S384x256 .f32) (w : IVec S384x147456 32) (z n : IVec S_ 32) (hz : z ix0 = 0#32) (c : Fin 384) (j : Fin 147456)
    (i : Fin 256) (hw : w (ix2 c j) = BitVec.ofNat 32 i.val) :
    look (shapeCast S98304 h shapeCasts_S384x256_S98304) (column w z n) (ix2 c j) = h (ix2 0 i) := by
  have row : look (shapeCast S98304 h shapeCasts_S384x256_S98304) (column w z n) (ix2 c j)
      = Host.gather gather_S98304_S56623104x1_S56623104_n_0_n_n_0_1_1 (shapeCast S98304 h shapeCasts_S384x256_S98304) (column w z n)
        (ix1 ⟨c.val * 147456 + j.val, by omega⟩) := by
    pointwise [look]
  have flat : shapeCast S98304 h shapeCasts_S384x256_S98304 (ix1 ⟨i.val, by omega⟩) = h (ix2 0 i) := by
    pointwise []
    exact congrArg h (congrArg₂ ix2 (Fin.ext (by simp only; omega)) (Fin.ext (by simp only; omega)))
  rw [row]
  exact (Routing.gather_take1 gather_S98304_S56623104x1_S56623104_n_0_n_n_0_1_1 rfl rfl rfl rfl _ _ _ ⟨i.val, by omega⟩
    (column_at w z n hz c j i.val hw (by omega) _ rfl) (by norm_num)).trans flat

theorem before_eq (x1 x2) : val_main_v80 (F := Ideal) x1 x2 = look (shapeCast S98304 (val_main_v61 (F := Ideal) x1 x2) shapeCasts_S384x256_S98304)
    (column (val_main_v69 (F := Ideal) x1 x2) (val_main_c_18 (F := Ideal)) (val_main_c_19 (F := Ideal))) := rfl
theorem upto_eq (x1 x2) : val_main_v92 (F := Ideal) x1 x2 = look (shapeCast S98304 (val_main_v58 (F := Ideal) x1 x2) shapeCasts_S384x256_S98304)
    (column (val_main_v69 (F := Ideal) x1 x2) (val_main_c_20 (F := Ideal)) (val_main_c_21 (F := Ideal))) := rfl

/-- The corrected values: from the least, whole steps and a fraction of a step up. -/
def corrected (lo hi : FVec Ideal S384 .f32) (p q : FVec Ideal S384x147456 .f32) (b : IVec S384x147456 32) : FVec Ideal S384x147456 .f32 :=
  addf (broadcastInDim S384x147456 ![0, 1] bcast_S384x1_S384x147456_0_1 (broadcastInDim S384x1 ![0] bcast_S384_S384x1_0 lo))
    (mulf (addf (minimumf (val_main_call3_v4 (F := Ideal)) (maximumf (val_main_call3_v1 (F := Ideal))
        (Host.divf (subf (val_main_v81 (F := Ideal)) p) (addf (val_main_v93 (F := Ideal)) q)))) (sitofp .f32 b))
      (broadcastInDim S384x147456 ![0, 1] bcast_S384x1_S384x147456_0_1
        (Host.divf (subf (broadcastInDim S384x1 ![0] bcast_S384_S384x1_0 hi) (broadcastInDim S384x1 ![0] bcast_S384_S384x1_0 lo)) (val_main_v46 (F := Ideal)))))

theorem corrected_eq (x0 x1 x2) : val_main_v101 (F := Ideal) x0 x1 x2 = corrected (val_main_v41 (F := Ideal) x0 x2) (val_main_v43 (F := Ideal) x0 x2)
    (val_main_v80 (F := Ideal) x1 x2) (val_main_v92 (F := Ideal) x1 x2) (val_main_v69 (F := Ideal) x1 x2) := rfl

theorem corrected_at (lo hi : FVec Ideal S384 .f32) (p q : FVec Ideal S384x147456 .f32) (b : IVec S384x147456 32) (c : Fin 384) (j : Fin 147456)
    (H : ℕ → ℕ) (l u : ℝ) (hl : lo (ix1 c) = (l : EReal)) (hu : hi (ix1 c) = (u : EReal)) (hp : p (ix2 c j) = ((prev H (idx H j.val) : ℝ) : EReal))
    (hq : q (ix2 c j) = ((H (idx H j.val) : ℝ) : EReal)) (hb : b (ix2 c j) = BitVec.ofNat 32 (idx H j.val)) :
    corrected lo hi p q b (ix2 c j) = ((table l ((u - l) / 256) H j.val : ℝ) : EReal) := by
  have place : val_main_v81 (F := Ideal) (ix2 c j) = (((j.val : ℝ) + 1 : ℝ) : EReal) := by
    have e : val_main_v81 (F := Ideal) (ix2 c j) = 1 + FloatOps.sitofp (F := Ideal) FTy.f32 (BitVec.ofNat 32 j.val) := by
      pointwise [val_main_v81, val_main_v51, val_main_v50, val_main_v49, val_main_v48, val_main_cst_13]
    rw [e, ofNat_float _ (by omega), add_comm, EReal.coe_add]
    rfl
  have one : id (constant (F := Ideal) S_ FTy.f32 0x3F800000#32) ix0 = (1 : EReal) := by
    show Ideal.ofBits .f32 0x3F800000#32 = 1
    simp [Ideal.ofBits, Ideal.ieee, -EReal.coe_mul]
    norm_num
  have zero : id (constant (F := Ideal) S_ FTy.f32 0x00000000#32) ix0 = (0 : EReal) := by
    show Ideal.ofBits .f32 0x00000000#32 = 0
    simp [Ideal.ofBits, Ideal.ieee]
  pointwise [corrected, val_main_call3_v4, val_main_call3_v3, val_main_call3_v1, val_main_call3_v0, val_main_cst_23, val_main_cst_24, val_main_v93, val_main_cst_22, val_main_v46, val_main_cst_12]
  rw [one, zero, place, hl, hu, hp, hq, hb, ofNat_float _ (lt_of_le_of_lt (idx_le H j.val) (by norm_num)), eps_lit, frac_coe]
  exact table_coe l u H j.val

/-- The corrected values with the last place of each channel set. -/
def ended (t : FVec Ideal S384x147456 .f32) (hi : FVec Ideal S384 .f32) : FVec Ideal S384x147456 .f32 :=
  Host.scatter scatter_S384x147456_S1_S384_0_1_1_0 (fun _ b => b) t (val_main_v103 (F := Ideal)) (shapeCast S384 (broadcastInDim S384x1 ![0] bcast_S384_S384x1_0 hi) shapeCasts_S384x1_S384)

theorem ended_eq (x0 x1 x2) : val_main_v104 (F := Ideal) x0 x1 x2 = ended (val_main_v101 (F := Ideal) x0 x1 x2) (val_main_v43 (F := Ideal) x0 x2) := rfl

theorem ended_at (t : FVec Ideal S384x147456 .f32) (hi : FVec Ideal S384 .f32) (c : Fin 384) (j : Fin 147456) (hj : j.val ≠ 147455) :
    ended t hi (ix2 c j) = t (ix2 c j) := by
  refine Routing.scatter_set_miss scatter_S384x147456_S1_S384_0_1_1_0 t (val_main_v103 (F := Ideal)) _ _ (fun k => ?_)
  intro hk
  obtain ⟨w, rfl⟩ : ∃ w : Fin 384, k = ValueIdx.ix1 w := ⟨k 0, funext fun a => by match a with | ⟨0, _⟩ => rfl⟩
  have := (Routing.lands_col scatter_S384x147456_S1_S384_0_1_1_0 rfl rfl (val_main_v103 (F := Ideal)) ⟨147455, by omega⟩ (by rfl) w c j).1 hk
  exact hj (congrArg Fin.val this.2)

/-- The values read back from the flat table, as rows. -/
def readBack (t : FVec Ideal S384x147456 .f32) (k : IVec S56623104x1 32) : FVec Ideal S384x147456 .f32 :=
  shapeCast S384x147456 (Host.gather gather_S56623104_S56623104x1_S56623104_n_0_n_n_0_1_1 (shapeCast S56623104 t shapeCasts_S384x147456_S56623104) k) shapeCasts_S56623104_S384x147456

theorem readBack_eq (x0 x1 x2) : val_main_v114 (F := Ideal) x0 x1 x2 = readBack (val_main_v104 (F := Ideal) x0 x1 x2)
    (column (val_main_v69 (F := Ideal) x1 x2) (val_main_c_26 (F := Ideal)) (val_main_c_27 (F := Ideal))) := rfl

theorem readBack_at (t : FVec Ideal S384x147456 .f32) (w : IVec S384x147456 32) (z n : IVec S_ 32) (hz : z ix0 = 0#32) (c : Fin 384)
    (j : Fin 147456) (i : Fin 256) (hw : w (ix2 c j) = BitVec.ofNat 32 i.val) :
    readBack t (column w z n) (ix2 c j) = t (ix2 0 ⟨i.val, by omega⟩) := by
  have row : readBack t (column w z n) (ix2 c j)
      = Host.gather gather_S56623104_S56623104x1_S56623104_n_0_n_n_0_1_1 (shapeCast S56623104 t shapeCasts_S384x147456_S56623104) (column w z n)
        (ix1 ⟨c.val * 147456 + j.val, by omega⟩) := by
    pointwise [readBack]
  have flat : shapeCast S56623104 t shapeCasts_S384x147456_S56623104 (ix1 ⟨i.val, by omega⟩) = t (ix2 0 ⟨i.val, by omega⟩) := by
    pointwise []
    exact congrArg t (congrArg₂ ix2 (Fin.ext (by simp only; omega)) (Fin.ext (by simp only; omega)))
  rw [row]
  exact (Routing.gather_take1 gather_S56623104_S56623104x1_S56623104_n_0_n_n_0_1_1 rfl rfl rfl rfl _ _ _ ⟨i.val, by omega⟩
    (column_at w z n hz c j i.val hw (by omega) _ rfl) (by norm_num)).trans flat

/-- The mean of the squared differences. -/
def mean (a b : FVec Ideal S384x147456 .f32) : FVec Ideal S_ .f32 :=
  mulf (val_main_cst_30 (F := Ideal)) (Host.divf (Host.reduceAdd (mulf (subf a b) (subf a b)) (val_main_cst_28 (F := Ideal)) reducesTo_S384x147456_S_d0_1 h_S_) (val_main_cst_29 (F := Ideal)))

theorem mean_eq (x0 x1 x2) : val_main_v122 (F := Ideal) x0 x1 x2 = mean (val_main_v114 (F := Ideal) x0 x1 x2) (val_main_v117 (F := Ideal) x0 x2) := rfl

theorem mean_at (a b : FVec Ideal S384x147456 .f32) : mean a b ix0
    = Ideal.div (∑ c : Fin 384, ∑ j : Fin 147456, (a (ix2 c j) - b (ix2 c j)) * (a (ix2 c j) - b (ix2 c j))) (Ideal.ofBits .f32 0x4C580000#32) := by
  pointwise [mean, val_main_cst_28, val_main_cst_29, val_main_cst_30]

end Cert.ReferenceIdeal.Parts
end
-- ==== Proof.RefValue.lean ====
/-
  What the reference computes: the sum of the squared differences between the corrected table, read at each position's index,
  and the masked values, over the number of values.
-/
module

public import proofs.«01_k».proof.Proof.RefTable

@[expose] public section

set_option maxRecDepth 16384

noncomputable section

open Idealize.ShloMosaic Idealize.ShloMosaic.TcCoe Idealize.SL.Sem

namespace Cert.ReferenceIdeal.Parts

open Cert.ReferenceIdeal Cert.ReferenceIdeal.Gen Cert.ReferenceIdeal.Read
open Cert.Proof.Scalars Cert.Proof.Math Cert.Proof.Spec

theorem style_at (x1 x2) (c : Fin 384) (j : Fin 147456) : val_main_v2 (F := Ideal) x1 x2 (ix2 c j) = masked x1 x2 c j := by
  pointwise [val_main_v2, val_main_v1, val_main_v0, masked]

theorem value40_at (x0 x2) (c : Fin 384) (j : Fin 147456) : val_main_v40 (F := Ideal) x0 x2 (ix2 c j) = masked x0 x2 c j := by
  pointwise [val_main_v40, val_main_v39, val_main_v38, masked]

theorem value117_at (x0 x2) (c : Fin 384) (j : Fin 147456) : val_main_v117 (F := Ideal) x0 x2 (ix2 c j) = masked x0 x2 c j := by
  pointwise [val_main_v117, val_main_v116, val_main_v115, masked]

theorem low_at (x1 x2) (c : Fin 384) : val_main_v3 (F := Ideal) x1 x2 (ix1 c) = least (masked x1 x2 c) := by
  pointwise [val_main_v3, val_main_cst]
  simp only [style_at]
  rfl

theorem high_at (x1 x2) (c : Fin 384) : val_main_v5 (F := Ideal) x1 x2 (ix1 c) = greatest (masked x1 x2 c) := by
  pointwise [val_main_v5, val_main_cst_0]
  simp only [style_at]
  rfl

theorem low41_at (x0 x2) (c : Fin 384) : val_main_v41 (F := Ideal) x0 x2 (ix1 c) = least (masked x0 x2 c) := by
  pointwise [val_main_v41, val_main_cst_10]
  simp only [value40_at]
  rfl

theorem high43_at (x0 x2) (c : Fin 384) : val_main_v43 (F := Ideal) x0 x2 (ix1 c) = greatest (masked x0 x2 c) := by
  pointwise [val_main_v43, val_main_cst_11]
  simp only [value40_at]
  rfl

section
variable (x0 x1 : FVec Ideal S1x384x384x384 .f32) (x2 : FVec Ideal S1x1x384x384 .f32)

theorem code_at (c : Fin 384) (j : Fin 147456) : val_main_v18 (F := Ideal) x1 x2 (ix2 c j) = BitVec.ofNat 32 (code (masked x1 x2) c j) := by
  rw [bins_eq, bins_at, quotients_eq, quotients_at, style_at, low_at, high_at]
  rfl

theorem hist_at (c : Fin 384) (k : Fin 256) : val_main_v37 (F := Ideal) x1 x2 (ix2 c k) = ((occ (code (masked x1 x2)) c k.val : ℝ) : EReal) := by
  rw [histogramRows_eq, keys_eq]
  exact histogramRows_at _ _ (code_at x1 x2) (code_le _) c k

theorem cum_at (c : Fin 384) (k : Fin 256) : val_main_v58 (F := Ideal) x1 x2 (ix2 c k) = ((cum (code (masked x1 x2)) c k.val : ℝ) : EReal) := by
  rw [cumulative_eq, scaled_eq]
  exact cumulative_at _ (occ (code (masked x1 x2)) c) c (scaled_at _ _ c (hist_at x1 x2 c) (occ_sum _ (code_le _) c)) k

theorem index_at (c : Fin 384) (j : Fin 147456) :
    val_main_v69 (F := Ideal) x1 x2 (ix2 c j) = BitVec.ofNat 32 (idx (cum (code (masked x1 x2)) c) j.val) := by
  rw [below_eq]
  exact below_at _ _ c (cum_at x1 x2 c) j

theorem zero18 : val_main_c_18 (F := Ideal) ix0 = 0#32 := rfl
theorem zero20 : val_main_c_20 (F := Ideal) ix0 = 0#32 := rfl
theorem zero26 : val_main_c_26 (F := Ideal) ix0 = 0#32 := rfl

/-- The reference's table entry read at place `i` of channel 0. -/
theorem table_at (l u : ℝ) (hl : least (masked x0 x2 0) = (l : EReal)) (hu : greatest (masked x0 x2 0) = (u : EReal)) (i : Fin 256) :
    val_main_v104 (F := Ideal) x0 x1 x2 (ix2 0 ⟨i.val, by omega⟩)
      = ((table l ((u - l) / 256) (cum (code (masked x1 x2)) 0) i.val : ℝ) : EReal) := by
  have hk : i.val < 147456 := lt_of_lt_of_le i.isLt (by norm_num)
  obtain ⟨k, hki⟩ : ∃ k : Fin 147456, k = ⟨i.val, hk⟩ := ⟨_, rfl⟩
  have hkv : k.val = i.val := congrArg Fin.val hki
  have hlast : k.val ≠ 147455 := by omega
  obtain ⟨n, hn⟩ : ∃ n : Fin 256, n.val = idx (cum (code (masked x1 x2)) 0) k.val := index_fin _ (code_le (masked x1 x2)) 0 k
  have hw : val_main_v69 (F := Ideal) x1 x2 (ix2 0 k) = BitVec.ofNat 32 n.val := by rw [hn]; exact index_at x1 x2 0 k
  have hp : val_main_v80 (F := Ideal) x1 x2 (ix2 0 k) = ((prev (cum (code (masked x1 x2)) 0) (idx (cum (code (masked x1 x2)) 0) k.val) : ℝ) : EReal) := by
    rw [before_eq, look_at _ _ _ _ zero18 0 k n hw, moved_eq, moved_at _ _ 0 (cum_at x1 x2 0) n, hn]
  have hq : val_main_v92 (F := Ideal) x1 x2 (ix2 0 k) = ((cum (code (masked x1 x2)) 0 (idx (cum (code (masked x1 x2)) 0) k.val) : ℝ) : EReal) := by
    rw [upto_eq, look_at _ _ _ _ zero20 0 k n hw, cum_at x1 x2 0 n, hn]
  show val_main_v104 (F := Ideal) x0 x1 x2 (ix2 0 ⟨i.val, hk⟩) = _
  rw [← hki, ← hkv, ended_eq, ended_at _ _ _ _ hlast, corrected_eq]
  exact corrected_at _ _ _ _ _ 0 k _ l u ((low41_at x0 x2 0).trans hl) ((high43_at x0 x2 0).trans hu) hp hq (index_at x1 x2 0 k)

/-- The reference's result. -/
theorem value_at (f : Fin 384 → Fin 147456 → ℝ) (hf : ∀ c j, masked x0 x2 c j = (f c j : EReal)) (l u : ℝ)
    (hl : least (masked x0 x2 0) = (l : EReal)) (hu : greatest (masked x0 x2 0) = (u : EReal)) :
    val_main_v122 (F := Ideal) x0 x1 x2 ix0 = Ideal.div ((total l u (code (masked x1 x2)) f : ℝ) : EReal) (Ideal.ofBits .f32 0x4C580000#32) := by
  rw [mean_eq, mean_at]
  refine congrArg (fun s => Ideal.div s (Ideal.ofBits .f32 0x4C580000#32)) ?_
  unfold total
  rw [← coe_sum]
  refine Finset.sum_congr rfl fun c _ => ?_
  rw [← coe_sum]
  refine Finset.sum_congr rfl fun j _ => ?_
  obtain ⟨n, hn⟩ : ∃ n : Fin 256, n.val = idx (cum (code (masked x1 x2)) c) j.val := index_fin _ (code_le (masked x1 x2)) c j
  have hw : val_main_v69 (F := Ideal) x1 x2 (ix2 c j) = BitVec.ofNat 32 n.val := by rw [hn]; exact index_at x1 x2 c j
  have e : val_main_v114 (F := Ideal) x0 x1 x2 (ix2 c j)
      = ((table l ((u - l) / 256) (cum (code (masked x1 x2)) 0) (idx (cum (code (masked x1 x2)) c) j.val) : ℝ) : EReal) := by
    rw [readBack_eq, readBack_at _ _ _ _ zero26 c j n hw, table_at x0 x1 x2 l u hl hu n, hn]
  rw [e, value117_at, hf, ← EReal.coe_sub, ← EReal.coe_mul]

end

end Cert.ReferenceIdeal.Parts
end
-- ==== Proof.Finite.lean ====
/-
  What the precondition says: each product of an input value and the mask is a real number.
-/
module

public import proofs.«01_k».proof.Defs
public import proofs.«01_k».proof.Proof.Spec

@[expose] public section

set_option maxRecDepth 16384

noncomputable section

open Idealize.ShloMosaic Idealize.ShloMosaic.TcCoe Idealize.SL.Sem

namespace Cert.Proof.Finite

open Cert.Pre_masked_input_finite Cert.Proof.Spec Cert.Proof.Scalars

/-- The shape facts the precondition states. -/
instance precondition : Cert.Pre_masked_input_finite.Facts := ⟨by decide, by decide⟩

/-- An extended real whose absolute value is below infinity is a real. -/
theorem real_of_abs (e : EReal) (h : max e (-e) < ⊤) : ∃ r : ℝ, e = (r : EReal) := by
  induction e using EReal.rec with
  | bot => exact absurd h (by simp)
  | coe r => exact ⟨r, rfl⟩
  | top => exact absurd h (by simp)

/-- The precondition at one entry. -/
theorem entry (x0 x1 : FVec Ideal S1x384x384x384 .f32) (x2 x3 : FVec Ideal S1x1x384x384 .f32)
    (h : Cert.Pre_masked_input_finite.fn (F := Ideal) x0 x1 x2 x3 = fun _ => 1#1) (c a b : Fin 384) :
    ∃ r : ℝ, x0 (ix4 0 c a b) * x2 (ix4 0 0 a b) = (r : EReal) := by
  have e := congrFun h (ix4 0 c a b)
  revert e
  pointwise [Cert.Pre_masked_input_finite.fn]
  intro e
  have hlt : FloatOps.absf (F := Ideal) (φ := .f32) (x0 (ix4 0 c a b) * x2 (ix4 0 0 a b)) < Ideal.ofBits .f32 0x7F800000#32 := by
    by_contra hn
    rw [decide_eq_false hn] at e
    exact absurd e (by decide)
  rw [lit_top] at hlt
  exact real_of_abs _ hlt

/-- Under the precondition the masked input is a table of reals. -/
theorem reals (x0 x1 : FVec Ideal S1x384x384x384 .f32) (x2 x3 : FVec Ideal S1x1x384x384 .f32)
    (h : Cert.Pre_masked_input_finite.fn (F := Ideal) x0 x1 x2 x3 = fun _ => 1#1) :
    ∃ f : Fin 384 → Fin 147456 → ℝ, ∀ k j, masked x0 x2 k j = (f k j : EReal) := by
  have e : ∀ (k : Fin 384) (j : Fin 147456), ∃ r : ℝ, masked x0 x2 k j = (r : EReal) := fun k j => entry x0 x1 x2 x3 h k _ _
  choose f hf using e
  exact ⟨f, hf⟩

end Cert.Proof.Finite
end
-- ==== Proof.lean ====
/-
  The proof of `Cert.Claim`. The kernel and its reading over the extended reals run, leave their arguments unchanged and end with
  every semaphore at zero; so does the reference. From equal arguments whose masked input is finite, kernel and reference end with
  the same result: both hold the sum `Spec.total` of squared differences, over the number of values
  (`Cert.KernelIdeal.Value.result_at` and `Cert.ReferenceIdeal.Parts.value_at`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.KernelRun
public import proofs.«01_k».proof.Proof.KernelValue
public import proofs.«01_k».proof.Proof.RefValue
public import proofs.«01_k».proof.Proof.Finite
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.Proof.Spec

/-- The reference runs from any memory, its arguments end unchanged, and every semaphore ends at zero: it declares none. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2, sem_eq_zero_of_no_sems (by decide) r.2⟩)
    (Cert.ReferenceIdeal.Value.run m ρ)

/-- Where the masked input is finite, the kernel's result is the reference's value of the same arguments. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (x3 : FVec Ideal ⟨4, ![1, 1, 384, 384]⟩ .f32)
    (h : Cert.Pre_masked_input_finite.fn (F := Ideal) (Cert.KernelIdeal.Value.inX m c) (Cert.KernelIdeal.Value.inS m c)
      (Cert.KernelIdeal.Value.inW m c) x3 = fun _ => 1#1) :
    Cert.ReferenceIdeal.Read.val_main_v122 (F := Ideal) (Cert.KernelIdeal.Value.inX m c) (Cert.KernelIdeal.Value.inS m c)
        (Cert.KernelIdeal.Value.inW m c)
      = (Cert.KernelIdeal.Gen.W9 m ρ c (Proc.devRef .tc Cert.KernelIdeal.main_v12) : FVec Ideal Cert.KernelIdeal.S_ .f32) := by
  obtain ⟨f, hf⟩ := Finite.reals _ _ _ _ h
  obtain ⟨lo, hlo⟩ := least_real _ _ (hf 0)
  obtain ⟨hi, hhi⟩ := greatest_real _ _ (hf 0)
  funext j
  obtain rfl : j = ix0 := funext fun a => a.elim0
  exact (Cert.ReferenceIdeal.Parts.value_at _ _ _ f hf lo hi hlo hhi).trans
    (Cert.KernelIdeal.Value.result_at m ρ c f hf lo hi hlo hhi).symm

/-- Kernel and reference end with equal results from equal arguments whose masked input is finite. -/
theorem equal_results : Cert.algebraic_KernelIdeal_ReferenceIdeal_pre_masked_input_finite := by
  intro m g m' g' hpre hargs
  refine ⟨fun c => Cert.KernelIdeal.Gen.W9 m g c (Proc.devRef .tc Cert.KernelIdeal.main_v12), Cert.KernelIdeal.Gen.run_result m g, ?_⟩
  refine (θ_run Cert.ReferenceIdeal.defs _ _).mono (fun r h c => ⟨(h c).1.trans ?_, (h c).2⟩) (Cert.ReferenceIdeal.Value.run m' g')
  obtain ⟨h0, h1, h2, h3⟩ := hargs c
  refine (Cert.ReferenceIdeal.Read.val_main_v122_eq (StableHlo.launchContents m' c)).trans ?_
  refine Eq.trans ?_ (results_agree m g c _ (hpre c))
  show Cert.ReferenceIdeal.Read.val_main_v122 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) = _
  rw [h0, h1, h2]
  rfl

/-- Everything claimed. -/
theorem claim : Cert.Claim :=
  ⟨Cert.Kernel.Gen.facts, Cert.KernelIdeal.Gen.facts, Cert.ReferenceIdeal.Gen.facts, Finite.precondition,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    equal_results⟩

end Cert.Proof

end
